-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_nonneg [hPre_ids_nonneg : Cert.Pre_ids_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_ids_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_nonneg [hPre_ids_nonneg : Cert.Pre_ids_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_ids_nonneg [hKernelIdeal : Cert.KernelIdeal.Facts] [hPre_ids_nonneg : Cert.Pre_ids_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_ids_nonneg [hReferenceIdeal : Cert.ReferenceIdeal.Facts] [hPre_ids_nonneg : Cert.Pre_ids_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.bf16_pair.Statement Cert.KernelIdeal.S2x4096 Cert.KernelIdeal.S1x4096

def algebraic_KernelIdeal_ReferenceIdeal_pre_ids_nonneg [hKernelIdeal : Cert.KernelIdeal.Facts] [hReferenceIdeal : Cert.ReferenceIdeal.Facts] [hPre_ids_nonneg : Cert.Pre_ids_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_ids_nonneg : Cert.Pre_ids_nonneg.Facts),
    quiescent_Kernel (hKernel := hKernel)
    ∧ quiescent_KernelIdeal (hKernelIdeal := hKernelIdeal)
    ∧ quiescent_KernelIdeal_pre_ids_nonneg (hKernelIdeal := hKernelIdeal) (hPre_ids_nonneg := hPre_ids_nonneg)
    ∧ quiescent_ReferenceIdeal (hReferenceIdeal := hReferenceIdeal)
    ∧ quiescent_ReferenceIdeal_pre_ids_nonneg (hReferenceIdeal := hReferenceIdeal) (hPre_ids_nonneg := hPre_ids_nonneg)
    ∧ preserves_Kernel_KernelIdeal
    ∧ algebraic_KernelIdeal_ReferenceIdeal_pre_ids_nonneg (hKernelIdeal := hKernelIdeal) (hReferenceIdeal := hReferenceIdeal) (hPre_ids_nonneg := hPre_ids_nonneg)
-- ==== Pre_ids_nonneg.lean ====
abbrev S2x512x32000 : Shape := ⟨3, ![2, 512, 32000]⟩
abbrev S2x4x32000 : Shape := ⟨3, ![2, 4, 32000]⟩
abbrev S2x512x4096 : Shape := ⟨3, ![2, 512, 4096]⟩
abbrev S2x512 : Shape := ⟨2, ![2, 512]⟩
abbrev S32000x4096 : Shape := ⟨2, ![32000, 4096]⟩
abbrev S32000 : Shape := ⟨1, ![32000]⟩
abbrev S_ : Shape := ⟨0, ![]⟩

class Facts : Prop where
  bcast_S_S2x512 : S_.BroadcastsInDim S2x512 (![] : Fin 0 → Fin S2x512.rank)

variable [Facts]

def fn {F : FTy → Type} [FloatOps F] (main_arg0 : FVec F S2x512x32000 .fp8e5m2) (main_arg1 : FVec F S2x4x32000 .f32) (main_arg2 : FVec F S2x512x4096 .fp8e4m3) (main_arg3 : FVec F S2x512 .f32) (main_arg4 : IVec S32000x4096 8) (main_arg5 : FVec F S32000 .f32) (main_arg6 : IVec S2x512 32) (main_arg7 : FVec F S2x512x4096 .bf16) : IVec S2x512 1 :=
  let main_c : IVec S_ 32 := constantI S_ 32 0#32
  let main_v0 : IVec S2x512 32 := broadcastInDim S2x512 ![] bcast_S_S2x512 main_c
  let main_v1 : IVec S2x512 1 := cmpi .sge main_arg6 main_v0
  main_v1
-- ==== Kernel.lean ====
abbrev S2x512x32000 : Shape := ⟨3, ![2, 512, 32000]⟩
abbrev S2x4x32000 : Shape := ⟨3, ![2, 4, 32000]⟩
abbrev S2x512x4096 : Shape := ⟨3, ![2, 512, 4096]⟩
abbrev S2x512 : Shape := ⟨2, ![2, 512]⟩
abbrev S32000x4096 : Shape := ⟨2, ![32000, 4096]⟩
abbrev S32000 : Shape := ⟨1, ![32000]⟩
abbrev S1024 : Shape := ⟨1, ![1024]⟩
abbrev S1024x32000 : Shape := ⟨2, ![1024, 32000]⟩
abbrev S1024x4096 : Shape := ⟨2, ![1024, 4096]⟩
abbrev S125x1x256 : Shape := ⟨3, ![125, 1, 256]⟩
abbrev S1024x256 : Shape := ⟨2, ![1024, 256]⟩
abbrev S2x4x256 : Shape := ⟨3, ![2, 4, 256]⟩
abbrev S256x4096 : Shape := ⟨2, ![256, 4096]⟩
abbrev S1x1x256 : Shape := ⟨3, ![1, 1, 256]⟩
abbrev S128x4096 : Shape := ⟨2, ![128, 4096]⟩
abbrev S256x1024 : Shape := ⟨2, ![256, 1024]⟩
abbrev S8x128 : Shape := ⟨2, ![8, 128]⟩
abbrev S4 : Shape := ⟨1, ![4]⟩
abbrev S1 : Shape := ⟨1, ![1]⟩
abbrev S_ : Shape := ⟨0, ![]⟩
abbrev S1x128 : Shape := ⟨2, ![1, 128]⟩
abbrev S1x1 : Shape := ⟨2, ![1, 1]⟩
abbrev S128x128 : Shape := ⟨2, ![128, 128]⟩
abbrev S1x256 : Shape := ⟨2, ![1, 256]⟩
abbrev S128x256 : Shape := ⟨2, ![128, 256]⟩
abbrev S256x128 : Shape := ⟨2, ![256, 128]⟩
abbrev S256x1 : Shape := ⟨2, ![256, 1]⟩
abbrev S512x4096 : Shape := ⟨2, ![512, 4096]⟩
abbrev S1x4096 : Shape := ⟨2, ![1, 4096]⟩
abbrev S2x4096 : Shape := ⟨2, ![2, 4096]⟩

abbrev nBuf : Space → Nat
  | .hbm => 15
  | .vmem => 20
  | .smem => 4
  | _ => 0

abbrev bufTy : (tb : Table) → Fin (tcTables nBuf tb) → BufTy
  | .hbm, ⟨0, _⟩ => ⟨S2x512x32000, .fp8e5m2⟩
  | .hbm, ⟨1, _⟩ => ⟨S2x4x32000, .f32⟩
  | .hbm, ⟨2, _⟩ => ⟨S2x512x4096, .fp8e4m3⟩
  | .hbm, ⟨3, _⟩ => ⟨S2x512, .f32⟩
  | .hbm, ⟨4, _⟩ => ⟨S32000x4096, .i8⟩
  | .hbm, ⟨5, _⟩ => ⟨S32000, .f32⟩
  | .hbm, ⟨6, _⟩ => ⟨S2x512, .i32⟩
  | .hbm, ⟨7, _⟩ => ⟨S2x512x4096, .bf16⟩
  | .hbm, ⟨8, _⟩ => ⟨S1024, .i32⟩
  | .hbm, ⟨9, _⟩ => ⟨S1024x32000, .fp8e5m2⟩
  | .hbm, ⟨10, _⟩ => ⟨S1024x4096, .fp8e4m3⟩
  | .hbm, ⟨11, _⟩ => ⟨S125x1x256, .f32⟩
  | .hbm, ⟨12, _⟩ => ⟨S1024x4096, .bf16⟩
  | .hbm, ⟨13, _⟩ => ⟨S32000x4096, .f32⟩
  | .hbm, ⟨14, _⟩ => ⟨S1024x4096, .bf16⟩
  | .local _ .vmem, ⟨0, _⟩ => ⟨S1024x256, .fp8e5m2⟩
  | .local _ .vmem, ⟨1, _⟩ => ⟨S1024x256, .fp8e5m2⟩
  | .local _ .vmem, ⟨2, _⟩ => ⟨S2x4x256, .f32⟩
  | .local _ .vmem, ⟨3, _⟩ => ⟨S2x4x256, .f32⟩
  | .local _ .vmem, ⟨4, _⟩ => ⟨S2x512, .f32⟩
  | .local _ .vmem, ⟨5, _⟩ => ⟨S256x4096, .i8⟩
  | .local _ .vmem, ⟨6, _⟩ => ⟨S256x4096, .i8⟩
  | .local _ .vmem, ⟨7, _⟩ => ⟨S1x1x256, .f32⟩
  | .local _ .vmem, ⟨8, _⟩ => ⟨S1x1x256, .f32⟩
  | .local _ .vmem, ⟨9, _⟩ => ⟨S256x4096, .f32⟩
  | .local _ .vmem, ⟨10, _⟩ => ⟨S256x4096, .f32⟩
  | .local _ .vmem, ⟨11, _⟩ => ⟨S1024x4096, .bf16⟩
  | .local _ .vmem, ⟨12, _⟩ => ⟨S128x4096, .fp8e4m3⟩
  | .local _ .vmem, ⟨13, _⟩ => ⟨S1024x4096, .bf16⟩
  | .local _ .vmem, ⟨14, _⟩ => ⟨S1024x4096, .f32⟩
  | .local _ .vmem, ⟨15, _⟩ => ⟨S1024x4096, .bf16⟩
  | .local _ .vmem, ⟨16, _⟩ => ⟨S1024x256, .bf16⟩
  | .local _ .vmem, ⟨17, _⟩ => ⟨S256x1024, .bf16⟩
  | .local _ .vmem, ⟨18, _⟩ => ⟨S8x128, .i32⟩
  | .local _ .vmem, ⟨19, _⟩ => ⟨S8x128, .i32⟩
  | .local _ .smem, ⟨0, _⟩ => ⟨S1024, .i32⟩
  | .local _ .smem, ⟨1, _⟩ => ⟨S8x128, .i32⟩
  | .local _ .smem, ⟨2, _⟩ => ⟨S1024, .i32⟩
  | .local _ .smem, ⟨3, _⟩ => ⟨S8x128, .i32⟩
  | _, _ => ⟨S2x512x32000, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_stg0_0 : Ref sig .tc := ⟨.smem, 0, rfl⟩
abbrev cc0_scratch8 : Ref sig .tc := ⟨.smem, 1, rfl⟩
abbrev cc0_scratch9 : Ref sig .tc := ⟨.smem, 2, rfl⟩
abbrev cc0_scratch10 : Ref sig .tc := ⟨.smem, 3, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [BitOps F]

abbrev grid0 : Pipeline.Grid := ⟨1, ![125], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_113 : BitVec 32 := 0#32
  let c8_i32 : BitVec 32 := 8#32
  let v231 : BitVec 32 := Scalar.addi c0_i32_113 c8_i32
  let c1_i32_114 : BitVec 32 := 1#32
  ⟨c0_i32_113, v231, c1_i32_114⟩
@[reducible] def k0_t2_loop : Scf.Loop 32 :=
  let c0_i32_1156 : BitVec 32 := 0#32
  let c128_i32_1157 : BitVec 32 := 128#32
  let v1835 : BitVec 32 := Scalar.addi c0_i32_1156 c128_i32_1157
  let c1_i32_1158 : BitVec 32 := 1#32
  ⟨c0_i32_1156, v1835, c1_i32_1158⟩
def k0_off1 (k0_t1 : Fin k0_t1_loop.trips) (k0_t2 : Fin k0_t2_loop.trips) : Fin 1 → Nat :=
  let c0_i32_113 : BitVec 32 := 0#32
  let c1_i32_114 : BitVec 32 := 1#32
  let arg23 : BitVec 32 := Scf.iv c0_i32_113 c1_i32_114 k0_t1
  let c128_i32_1161 : BitVec 32 := 128#32
  let v1844 : BitVec 32 := Scalar.muli arg23 c128_i32_1161
  let c0_i32_1156 : BitVec 32 := 0#32
  let c1_i32_1158 : BitVec 32 := 1#32
  let arg24 : BitVec 32 := Scf.iv c0_i32_1156 c1_i32_1158 k0_t2
  let v1845 : BitVec 32 := Scalar.addi v1844 arg24
  let v1846 : Index := Scalar.indexCast v1845
  ![v1846.toNat]
def k0_off2 (k0_t1 : Fin k0_t1_loop.trips) : Fin 2 → Nat :=
  let c0_i32_113 : BitVec 32 := 0#32
  let c1_i32_114 : BitVec 32 := 1#32
  let arg23 : BitVec 32 := Scf.iv c0_i32_113 c1_i32_114 k0_t1
  let v1837 : Index := Scalar.indexCast arg23
  let c0_1160 : Index := 0#32
  ![v1837.toNat, 0]
@[reducible] def k0_t3_loop : Scf.Loop 32 :=
  let c0_i32_120 : BitVec 32 := 0#32
  let c1024_i32 : BitVec 32 := 1024#32
  let v235 : BitVec 32 := Scalar.addi c0_i32_120 c1024_i32
  let c1_i32_121 : BitVec 32 := 1#32
  ⟨c0_i32_120, v235, c1_i32_121⟩
def k0_off3 (k0_t3 : Fin k0_t3_loop.trips) : Fin 1 → Nat :=
  let c0_i32_120 : BitVec 32 := 0#32
  let c1_i32_121 : BitVec 32 := 1#32
  let arg23 : BitVec 32 := Scf.iv c0_i32_120 c1_i32_121 k0_t3
  let v1834 : Index := Scalar.indexCast arg23
  ![v1834.toNat]
@[reducible] def k0_t4_loop : Scf.Loop 32 :=
  let c0_i32_131 : BitVec 32 := 0#32
  let c8_i32_132 : BitVec 32 := 8#32
  let v251 : BitVec 32 := Scalar.addi c0_i32_131 c8_i32_132
  let c1_i32_133 : BitVec 32 := 1#32
  ⟨c0_i32_131, v251, c1_i32_133⟩
@[reducible] def k0_t5_loop : Scf.Loop 32 :=
  let c0_i32_1155 : BitVec 32 := 0#32
  let c128_i32_1156 : BitVec 32 := 128#32
  let v1834 : BitVec 32 := Scalar.addi c0_i32_1155 c128_i32_1156
  let c1_i32_1157 : BitVec 32 := 1#32
  ⟨c0_i32_1155, v1834, c1_i32_1157⟩
def k0_off4 (k0_t4 : Fin k0_t4_loop.trips) (k0_t5 : Fin k0_t5_loop.trips) : Fin 2 → Nat :=
  let c0_i32_131 : BitVec 32 := 0#32
  let c1_i32_133 : BitVec 32 := 1#32
  let arg23 : BitVec 32 := Scf.iv c0_i32_131 c1_i32_133 k0_t4
  let v1837 : Index := Scalar.indexCast arg23
  let c0_i32_1155 : BitVec 32 := 0#32
  let c1_i32_1157 : BitVec 32 := 1#32
  let arg24 : BitVec 32 := Scf.iv c0_i32_1155 c1_i32_1157 k0_t5
  let v1838 : Index := Scalar.indexCast arg24
  ![v1837.toNat, v1838.toNat]
def k0_off5 (v1839 : BitVec 32) : Fin 1 → Nat :=
  let v1840 : Index := Scalar.indexCast v1839
  ![v1840.toNat]

def k0_chk1 (i : grid0.Coords) (v1839 : BitVec 32) : Prop :=
  (∀ (k0_h1 : k0_cond1 i = 1#1), ∀ a, (k0_off5 v1839) a + S1.size a ≤ S1024.size a)
theorem k0_off5_inb : ∀ (i : grid0.Coords) (v1839 : BitVec 32) (k0_hw1 : k0_chk1 i v1839), ∀ (k0_h1 : k0_cond1 i = 1#1), ∀ a, (k0_off5 v1839) a + S1.size a ≤ S1024.size a := fun i v1839 k0_hw1 k0_h1 => k0_hw1 k0_h1

def k0_off6 (i : grid0.Coords) : Fin 2 → Nat :=
  let arg0 : BitVec 32 := BitVec.ofNat 32 (i 0).val
  let c0_i32_80 : BitVec 32 := 0#32
  let v146 : BitVec 1 := Scalar.cmpi .sgt arg0 c0_i32_80
  let v147 : BitVec 32 := Scalar.extui v146
  let c0_i32_81 : BitVec 32 := 0#32
  let v148 : BitVec 1 := Scalar.cmpi .slt arg0 c0_i32_81
  let v149 : BitVec 32 := Scalar.extui v148
  let v150 : BitVec 32 := Scalar.subi v147 v149
  let c128_i32 : BitVec 32 := 128#32
  let c0_i32_82 : BitVec 32 := 0#32
  let v151 : BitVec 1 := Scalar.cmpi .sgt c128_i32 c0_i32_82
  let v152 : BitVec 32 := Scalar.extui v151
  let c0_i32_83 : BitVec 32 := 0#32
  let v153 : BitVec 1 := Scalar.cmpi .slt c128_i32 c0_i32_83
  let v154 : BitVec 32 := Scalar.extui v153
  let v155 : BitVec 32 := Scalar.subi v152 v154
  let v156 : BitVec 1 := Scalar.cmpi .ne v150 v155
  let v157 : BitVec 32 := Scalar.remsi arg0 c128_i32
  let c0_i32_84 : BitVec 32 := 0#32
  let v158 : BitVec 1 := Scalar.cmpi .ne v157 c0_i32_84
  let v159 : BitVec 1 := Scalar.andi v156 v158
  let v145 : BitVec 32 := Scalar.divsi arg0 c128_i32
  let c1_i32 : BitVec 32 := 1#32
  let v160 : BitVec 32 := Scalar.subi v145 c1_i32
  let v161 : BitVec 32 := Scalar.select v159 v160 v145
  let v201 : Index := Scalar.indexCast v161
  let c128_i32_85 : BitVec 32 := 128#32
  let c0_i32_86 : BitVec 32 := 0#32
  let v162 : BitVec 1 := Scalar.cmpi .eq c128_i32_85 c0_i32_86
  let c1_i32_87 : BitVec 32 := 1#32
  let v163 : BitVec 32 := Scalar.select v162 c1_i32_87 c128_i32_85
  let v164 : BitVec 32 := Scalar.remsi arg0 v163
  let c0_i32_89 : BitVec 32 := 0#32
  let v166 : BitVec 1 := Scalar.cmpi .slt v164 c0_i32_89
  let c0_i32_90 : BitVec 32 := 0#32
  let v167 : BitVec 1 := Scalar.cmpi .slt v163 c0_i32_90
  let v168 : BitVec 1 := Scalar.xori v166 v167
  let c0_i32_88 : BitVec 32 := 0#32
  let v165 : BitVec 1 := Scalar.cmpi .ne v164 c0_i32_88
  let v169 : BitVec 1 := Scalar.andi v168 v165
  let v170 : BitVec 32 := Scalar.addi v164 v163
  let v171 : BitVec 32 := Scalar.select v169 v170 v164
  let v202 : Index := Scalar.indexCast v171
  ![v201.toNat, v202.toNat]
def k0_off7 (i : grid0.Coords) : Fin 2 → Nat :=
  let arg0 : BitVec 32 := BitVec.ofNat 32 (i 0).val
  let c1_i32_91 : BitVec 32 := 1#32
  let v172 : BitVec 32 := Scalar.addi arg0 c1_i32_91
  let c0_i32_93 : BitVec 32 := 0#32
  let v174 : BitVec 1 := Scalar.cmpi .sgt v172 c0_i32_93
  let v175 : BitVec 32 := Scalar.extui v174
  let c0_i32_94 : BitVec 32 := 0#32
  let v176 : BitVec 1 := Scalar.cmpi .slt v172 c0_i32_94
  let v177 : BitVec 32 := Scalar.extui v176
  let v178 : BitVec 32 := Scalar.subi v175 v177
  let c128_i32_92 : BitVec 32 := 128#32
  let c0_i32_95 : BitVec 32 := 0#32
  let v179 : BitVec 1 := Scalar.cmpi .sgt c128_i32_92 c0_i32_95
  let v180 : BitVec 32 := Scalar.extui v179
  let c0_i32_96 : BitVec 32 := 0#32
  let v181 : BitVec 1 := Scalar.cmpi .slt c128_i32_92 c0_i32_96
  let v182 : BitVec 32 := Scalar.extui v181
  let v183 : BitVec 32 := Scalar.subi v180 v182
  let v184 : BitVec 1 := Scalar.cmpi .ne v178 v183
  let v185 : BitVec 32 := Scalar.remsi v172 c128_i32_92
  let c0_i32_97 : BitVec 32 := 0#32
  let v186 : BitVec 1 := Scalar.cmpi .ne v185 c0_i32_97
  let v187 : BitVec 1 := Scalar.andi v184 v186
  let v173 : BitVec 32 := Scalar.divsi v172 c128_i32_92
  let c1_i32_98 : BitVec 32 := 1#32
  let v188 : BitVec 32 := Scalar.subi v173 c1_i32_98
  let v189 : BitVec 32 := Scalar.select v187 v188 v173
  let v204 : Index := Scalar.indexCast v189
  let c1_i32_99 : BitVec 32 := 1#32
  let v190 : BitVec 32 := Scalar.addi arg0 c1_i32_99
  let c128_i32_100 : BitVec 32 := 128#32
  let c0_i32_101 : BitVec 32 := 0#32
  let v191 : BitVec 1 := Scalar.cmpi .eq c128_i32_100 c0_i32_101
  let c1_i32_102 : BitVec 32 := 1#32
  let v192 : BitVec 32 := Scalar.select v191 c1_i32_102 c128_i32_100
  let v193 : BitVec 32 := Scalar.remsi v190 v192
  let c0_i32_104 : BitVec 32 := 0#32
  let v195 : BitVec 1 := Scalar.cmpi .slt v193 c0_i32_104
  let c0_i32_105 : BitVec 32 := 0#32
  let v196 : BitVec 1 := Scalar.cmpi .slt v192 c0_i32_105
  let v197 : BitVec 1 := Scalar.xori v195 v196
  let c0_i32_103 : BitVec 32 := 0#32
  let v194 : BitVec 1 := Scalar.cmpi .ne v193 c0_i32_103
  let v198 : BitVec 1 := Scalar.andi v197 v194
  let v199 : BitVec 32 := Scalar.addi v193 v192
  let v200 : BitVec 32 := Scalar.select v198 v199 v193
  let v205 : Index := Scalar.indexCast v200
  ![v204.toNat, v205.toNat]
@[reducible] def k0_t6_loop (v203 : BitVec 32) (v206 : BitVec 32) : Scf.Loop 32 :=
  let v207 : BitVec 32 := Scalar.subi v206 v203
  let c1_i32_107 : BitVec 32 := 1#32
  let v209 : BitVec 32 := Scalar.divsi v207 c1_i32_107
  let v210 : BitVec 32 := Scalar.muli v209 c1_i32_107
  let v211 : BitVec 32 := Scalar.addi v203 v210
  let c1_i32_108 : BitVec 32 := 1#32
  ⟨v203, v211, c1_i32_108⟩

def k0_off8 (v203 : BitVec 32) (v206 : BitVec 32) (k0_t6 : Fin (k0_t6_loop v203 v206).trips) : Fin 1 → Nat :=
  let c1_i32_108 : BitVec 32 := 1#32
  let arg23 : BitVec 32 := Scf.iv v203 c1_i32_108 k0_t6
  let v217 : Index := Scalar.indexCast arg23
  ![v217.toNat]
def k0_off9 (v218 : BitVec 32) : Fin 1 → Nat :=
  let v219 : Index := Scalar.indexCast v218
  ![v219.toNat]

def k0_off10 (v218 : BitVec 32) : Fin 2 → Nat :=
  let c0_i32_111 : BitVec 32 := 0#32
  let v224 : BitVec 1 := Scalar.cmpi .sgt v218 c0_i32_111
  let v225 : BitVec 32 := Scalar.extui v224
  let c0_i32_112 : BitVec 32 := 0#32
  let v226 : BitVec 1 := Scalar.cmpi .slt v218 c0_i32_112
  let v227 : BitVec 32 := Scalar.extui v226
  let v228 : BitVec 32 := Scalar.subi v225 v227
  let c2_i32 : BitVec 32 := 2#32
  let c0_i32_113 : BitVec 32 := 0#32
  let v229 : BitVec 1 := Scalar.cmpi .sgt c2_i32 c0_i32_113
  let v230 : BitVec 32 := Scalar.extui v229
  let c0_i32_114 : BitVec 32 := 0#32
  let v231 : BitVec 1 := Scalar.cmpi .slt c2_i32 c0_i32_114
  let v232 : BitVec 32 := Scalar.extui v231
  let v233 : BitVec 32 := Scalar.subi v230 v232
  let v234 : BitVec 1 := Scalar.cmpi .ne v228 v233
  let v235 : BitVec 32 := Scalar.remsi v218 c2_i32
  let c0_i32_115 : BitVec 32 := 0#32
  let v236 : BitVec 1 := Scalar.cmpi .ne v235 c0_i32_115
  let v237 : BitVec 1 := Scalar.andi v234 v236
  let v223 : BitVec 32 := Scalar.divsi v218 c2_i32
  let c1_i32_116 : BitVec 32 := 1#32
  let v238 : BitVec 32 := Scalar.subi v223 c1_i32_116
  let v239 : BitVec 32 := Scalar.select v237 v238 v223
  let v241 : Index := Scalar.indexCast v239
  let c0_117 : Index := 0#32
  ![Nat.mul 2 v241.toNat, 0]

def k0_chk3 (v218 : BitVec 32) : Prop :=
  (∀ a, (k0_off9 v218) a + S1.size a ≤ S1024.size a) ∧
  (∀ a, (k0_off10 v218) a + S2x4096.size a ≤ S1024x4096.size a)
theorem k0_off9_inb : ∀ (v218 : BitVec 32) (k0_hw3 : k0_chk3 v218), ∀ a, (k0_off9 v218) a + S1.size a ≤ S1024.size a := fun v218 k0_hw3 => k0_hw3.1
theorem k0_off10_inb : ∀ (v218 : BitVec 32) (k0_hw3 : k0_chk3 v218), ∀ a, (k0_off10 v218) a + S2x4096.size a ≤ S1024x4096.size a := fun v218 k0_hw3 => k0_hw3.2

def k0_off11 (i : grid0.Coords) (v220 : BitVec 32) : Fin 2 → Nat :=
  let arg0 : BitVec 32 := BitVec.ofNat 32 (i 0).val
  let c256_i32 : BitVec 32 := 256#32
  let v221 : BitVec 32 := Scalar.muli arg0 c256_i32
  let v222 : BitVec 32 := Scalar.subi v220 v221
  let v259 : Index := Scalar.indexCast v222
  let c0_125 : Index := 0#32
  ![v259.toNat, 0]

def k0_chk4 (i : grid0.Coords) (v220 : BitVec 32) : Prop :=
  (∀ a, (k0_off11 i v220) a + S1x4096.size a ≤ S256x4096.size a)
theorem k0_off11_inb : ∀ (i : grid0.Coords) (v220 : BitVec 32) (k0_hw4 : k0_chk4 i v220), ∀ a, (k0_off11 i v220) a + S1x4096.size a ≤ S256x4096.size a := fun i v220 k0_hw4 => k0_hw4

@[reducible] def k0_t7_loop (v203 : BitVec 32) (v206 : BitVec 32) : Scf.Loop 32 :=
  let v207 : BitVec 32 := Scalar.subi v206 v203
  let c1_i32_107 : BitVec 32 := 1#32
  let v209 : BitVec 32 := Scalar.divsi v207 c1_i32_107
  let v210 : BitVec 32 := Scalar.muli v209 c1_i32_107
  let v211 : BitVec 32 := Scalar.addi v203 v210
  let v208 : BitVec 32 := Scalar.addi v203 v207
  let c1_i32_109 : BitVec 32 := 1#32
  ⟨v211, v208, c1_i32_109⟩
def k0_off12 (v203 : BitVec 32) (v206 : BitVec 32) (k0_t7 : Fin (k0_t7_loop v203 v206).trips) : Fin 1 → Nat :=
  let v207 : BitVec 32 := Scalar.subi v206 v203
  let c1_i32_107 : BitVec 32 := 1#32
  let v209 : BitVec 32 := Scalar.divsi v207 c1_i32_107
  let v210 : BitVec 32 := Scalar.muli v209 c1_i32_107
  let v211 : BitVec 32 := Scalar.addi v203 v210
  let c1_i32_109 : BitVec 32 := 1#32
  let arg23 : BitVec 32 := Scf.iv v211 c1_i32_109 k0_t7
  let v217 : Index := Scalar.indexCast arg23
  ![v217.toNat]

def k0_chk2 (v203 : BitVec 32) (v206 : BitVec 32) : Prop :=
  ((k0_t6_loop v203 v206).OK) ∧
  (∀ k0_t6 : Fin (k0_t6_loop v203 v206).trips, ∀ a, (k0_off8 v203 v206 k0_t6) a + S1.size a ≤ S1024.size a) ∧
  ((k0_t7_loop v203 v206).OK) ∧
  (∀ k0_t7 : Fin (k0_t7_loop v203 v206).trips, ∀ a, (k0_off12 v203 v206 k0_t7) a + S1.size a ≤ S1024.size a)
theorem k0_t6_ok : ∀ (v203 : BitVec 32) (v206 : BitVec 32) (k0_hw2 : k0_chk2 v203 v206), (k0_t6_loop v203 v206).OK := fun v203 v206 k0_hw2 => k0_hw2.1
theorem k0_off8_inb : ∀ (v203 : BitVec 32) (v206 : BitVec 32) (k0_hw2 : k0_chk2 v203 v206) (k0_t6 : Fin (k0_t6_loop v203 v206).trips), ∀ a, (k0_off8 v203 v206 k0_t6) a + S1.size a ≤ S1024.size a := fun v203 v206 k0_hw2 k0_t6 => k0_hw2.2.1 k0_t6
theorem k0_t7_ok : ∀ (v203 : BitVec 32) (v206 : BitVec 32) (k0_hw2 : k0_chk2 v203 v206), (k0_t7_loop v203 v206).OK := fun v203 v206 k0_hw2 => k0_hw2.2.2.1
theorem k0_off12_inb : ∀ (v203 : BitVec 32) (v206 : BitVec 32) (k0_hw2 : k0_chk2 v203 v206) (k0_t7 : Fin (k0_t7_loop v203 v206).trips), ∀ a, (k0_off12 v203 v206 k0_t7) a + S1.size a ≤ S1024.size a := fun v203 v206 k0_hw2 k0_t7 => k0_hw2.2.2.2 k0_t7

def k0_off13 (v218 : BitVec 32) : Fin 1 → Nat :=
  let v219 : Index := Scalar.indexCast v218
  ![v219.toNat]

def k0_off14 (v218 : BitVec 32) : Fin 2 → Nat :=
  let c0_i32_111 : BitVec 32 := 0#32
  let v224 : BitVec 1 := Scalar.cmpi .sgt v218 c0_i32_111
  let v225 : BitVec 32 := Scalar.extui v224
  let c0_i32_112 : BitVec 32 := 0#32
  let v226 : BitVec 1 := Scalar.cmpi .slt v218 c0_i32_112
  let v227 : BitVec 32 := Scalar.extui v226
  let v228 : BitVec 32 := Scalar.subi v225 v227
  let c2_i32 : BitVec 32 := 2#32
  let c0_i32_113 : BitVec 32 := 0#32
  let v229 : BitVec 1 := Scalar.cmpi .sgt c2_i32 c0_i32_113
  let v230 : BitVec 32 := Scalar.extui v229
  let c0_i32_114 : BitVec 32 := 0#32
  let v231 : BitVec 1 := Scalar.cmpi .slt c2_i32 c0_i32_114
  let v232 : BitVec 32 := Scalar.extui v231
  let v233 : BitVec 32 := Scalar.subi v230 v232
  let v234 : BitVec 1 := Scalar.cmpi .ne v228 v233
  let v235 : BitVec 32 := Scalar.remsi v218 c2_i32
  let c0_i32_115 : BitVec 32 := 0#32
  let v236 : BitVec 1 := Scalar.cmpi .ne v235 c0_i32_115
  let v237 : BitVec 1 := Scalar.andi v234 v236
  let v223 : BitVec 32 := Scalar.divsi v218 c2_i32
  let c1_i32_116 : BitVec 32 := 1#32
  let v238 : BitVec 32 := Scalar.subi v223 c1_i32_116
  let v239 : BitVec 32 := Scalar.select v237 v238 v223
  let v241 : Index := Scalar.indexCast v239
  let c0_117 : Index := 0#32
  ![Nat.mul 2 v241.toNat, 0]

def k0_chk5 (v218 : BitVec 32) : Prop :=
  (∀ a, (k0_off13 v218) a + S1.size a ≤ S1024.size a) ∧
  (∀ a, (k0_off14 v218) a + S2x4096.size a ≤ S1024x4096.size a)
theorem k0_off13_inb : ∀ (v218 : BitVec 32) (k0_hw5 : k0_chk5 v218), ∀ a, (k0_off13 v218) a + S1.size a ≤ S1024.size a := fun v218 k0_hw5 => k0_hw5.1
theorem k0_off14_inb : ∀ (v218 : BitVec 32) (k0_hw5 : k0_chk5 v218), ∀ a, (k0_off14 v218) a + S2x4096.size a ≤ S1024x4096.size a := fun v218 k0_hw5 => k0_hw5.2

def k0_off15 (i : grid0.Coords) (v220 : BitVec 32) : Fin 2 → Nat :=
  let arg0 : BitVec 32 := BitVec.ofNat 32 (i 0).val
  let c256_i32 : BitVec 32 := 256#32
  let v221 : BitVec 32 := Scalar.muli arg0 c256_i32
  let v222 : BitVec 32 := Scalar.subi v220 v221
  let v259 : Index := Scalar.indexCast v222
  let c0_125 : Index := 0#32
  ![v259.toNat, 0]

def k0_chk6 (i : grid0.Coords) (v220 : BitVec 32) : Prop :=
  (∀ a, (k0_off15 i v220) a + S1x4096.size a ≤ S256x4096.size a)
theorem k0_off15_inb : ∀ (i : grid0.Coords) (v220 : BitVec 32) (k0_hw6 : k0_chk6 i v220), ∀ a, (k0_off15 i v220) a + S1x4096.size a ≤ S256x4096.size a := fun i v220 k0_hw6 => k0_hw6

def k0_cond2 (i : grid0.Coords) : BitVec 1 :=
  let arg0 : BitVec 32 := BitVec.ofNat 32 (i 0).val
  let c124_i32 : BitVec 32 := 124#32
  let v214 : BitVec 1 := Scalar.cmpi .eq arg0 c124_i32
  let v215 : BitVec 32 := Scalar.extui v214
  let c0_i32_110 : BitVec 32 := 0#32
  let v216 : BitVec 1 := Scalar.cmpi .ne v215 c0_i32_110
  v216

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x256 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F]
-- ==== ReferenceIdeal.lean ====
abbrev S2x512x32000 : Shape := ⟨3, ![2, 512, 32000]⟩
abbrev S2x4x32000 : Shape := ⟨3, ![2, 4, 32000]⟩
abbrev S2x512x4096 : Shape := ⟨3, ![2, 512, 4096]⟩
abbrev S2x512 : Shape := ⟨2, ![2, 512]⟩
abbrev S32000x4096 : Shape := ⟨2, ![32000, 4096]⟩
abbrev S32000 : Shape := ⟨1, ![32000]⟩
abbrev S2x4x128x32000 : Shape := ⟨4, ![2, 4, 128, 32000]⟩
abbrev S2x4x1x32000 : Shape := ⟨4, ![2, 4, 1, 32000]⟩
abbrev S2x512x1 : Shape := ⟨3, ![2, 512, 1]⟩
abbrev S1024 : Shape := ⟨1, ![1024]⟩
abbrev S1024x4096 : Shape := ⟨2, ![1024, 4096]⟩
abbrev S_ : Shape := ⟨0, ![]⟩
abbrev S1024x1 : Shape := ⟨2, ![1024, 1]⟩
abbrev S32000x1 : Shape := ⟨2, ![32000, 1]⟩

abbrev nBuf : Space → Nat
  | .hbm => 41
  | .vmem => 6
  | .smem => 0
  | _ => 0

abbrev bufTy : (tb : Table) → Fin (tcTables nBuf tb) → BufTy
  | .hbm, ⟨0, _⟩ => ⟨S2x512x32000, .fp8e5m2⟩
  | .hbm, ⟨1, _⟩ => ⟨S2x4x32000, .f32⟩
  | .hbm, ⟨2, _⟩ => ⟨S2x512x4096, .fp8e4m3⟩
  | .hbm, ⟨3, _⟩ => ⟨S2x512, .f32⟩
  | .hbm, ⟨4, _⟩ => ⟨S32000x4096, .i8⟩
  | .hbm, ⟨5, _⟩ => ⟨S32000, .f32⟩
  | .hbm, ⟨6, _⟩ => ⟨S2x512, .i32⟩
  | .hbm, ⟨7, _⟩ => ⟨S2x512x4096, .bf16⟩
  | .hbm, ⟨8, _⟩ => ⟨S2x512x32000, .bf16⟩
  | .hbm, ⟨9, _⟩ => ⟨S2x512x4096, .bf16⟩
  | .hbm, ⟨10, _⟩ => ⟨S32000x4096, .bf16⟩
  | .hbm, ⟨11, _⟩ => ⟨S2x4x128x32000, .bf16⟩
  | .hbm, ⟨12, _⟩ => ⟨S2x4x32000, .bf16⟩
  | .hbm, ⟨13, _⟩ => ⟨S2x4x1x32000, .bf16⟩
  | .hbm, ⟨14, _⟩ => ⟨S2x4x128x32000, .bf16⟩
  | .hbm, ⟨15, _⟩ => ⟨S2x4x128x32000, .bf16⟩
  | .hbm, ⟨16, _⟩ => ⟨S2x512x32000, .bf16⟩
  | .hbm, ⟨17, _⟩ => ⟨S2x512, .bf16⟩
  | .hbm, ⟨18, _⟩ => ⟨S2x512x1, .bf16⟩
  | .hbm, ⟨19, _⟩ => ⟨S2x512x4096, .bf16⟩
  | .hbm, ⟨20, _⟩ => ⟨S2x512x4096, .bf16⟩
  | .hbm, ⟨21, _⟩ => ⟨S32000x4096, .f32⟩
  | .hbm, ⟨22, _⟩ => ⟨S1024, .i32⟩
  | .hbm, ⟨23, _⟩ => ⟨S1024x4096, .bf16⟩
  | .hbm, ⟨24, _⟩ => ⟨S1024x4096, .f32⟩
  | .hbm, ⟨25, _⟩ => ⟨S_, .i32⟩
  | .hbm, ⟨26, _⟩ => ⟨S1024, .i32⟩
  | .hbm, ⟨27, _⟩ => ⟨S1024, .i1⟩
  | .hbm, ⟨28, _⟩ => ⟨S_, .i32⟩
  | .hbm, ⟨29, _⟩ => ⟨S1024, .i32⟩
  | .hbm, ⟨30, _⟩ => ⟨S1024, .i32⟩
  | .hbm, ⟨31, _⟩ => ⟨S1024, .i32⟩
  | .hbm, ⟨32, _⟩ => ⟨S1024x1, .i32⟩
  | .hbm, ⟨33, _⟩ => ⟨S32000x4096, .f32⟩
  | .hbm, ⟨34, _⟩ => ⟨S32000, .bf16⟩
  | .hbm, ⟨35, _⟩ => ⟨S32000x1, .bf16⟩
  | .hbm, ⟨36, _⟩ => ⟨S32000x4096, .bf16⟩
  | .hbm, ⟨37, _⟩ => ⟨S32000x4096, .bf16⟩
  | .hbm, ⟨38, _⟩ => ⟨S2x512x4096, .f32⟩
  | .hbm, ⟨39, _⟩ => ⟨S2x512x4096, .bf16⟩
  | .hbm, ⟨40, _⟩ => ⟨S1024x4096, .bf16⟩
  | .local _ .vmem, ⟨0, _⟩ => ⟨S2x512x32000, .fp8e5m2⟩
  | .local _ .vmem, ⟨1, _⟩ => ⟨S2x512x4096, .fp8e4m3⟩
  | .local _ .vmem, ⟨2, _⟩ => ⟨S32000x4096, .i8⟩
  | .local _ .vmem, ⟨3, _⟩ => ⟨S2x512x32000, .bf16⟩
  | .local _ .vmem, ⟨4, _⟩ => ⟨S2x512x4096, .bf16⟩
  | .local _ .vmem, ⟨5, _⟩ => ⟨S32000x4096, .bf16⟩
  | _, _ => ⟨S2x512x32000, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x512x32000 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32000x4096 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x32000 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x512x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32000x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Sort.lean ====
/-
  The counting sort behind the token lists, with no program in it: 1024 keys, the rank of a token (how many tokens come
  before it), the order (the rank's inverse) and where each block of rows starts in that order.
-/
module

public import Idealize.ShloMosaic.Lib.Tactic

@[expose] public section

noncomputable section

namespace TokenSort

variable (ids : Fin 1024 → BitVec 32)

/-- The sort key: the id first, then the token's own position. -/
def key (u : Fin 1024) : Int := (ids u).toInt * 1024 + (u.val : Int)

theorem key_inj : Function.Injective (key ids) := by
  intro u v h
  unfold key at h
  have hu := u.isLt
  have hv := v.isLt
  apply Fin.ext
  omega

/-- How many tokens have a key below `c`. -/
def below (c : Int) : ℕ := (Finset.univ.filter fun u => key ids u < c).card

/-- How many tokens come before `t`. -/
def rank (t : Fin 1024) : ℕ := below ids (key ids t)

theorem rank_lt_below (t : Fin 1024) (c : Int) : rank ids t < below ids c ↔ key ids t < c := by
  unfold rank below
  constructor
  · intro h
    by_contra hc
    have : (Finset.univ.filter fun u => key ids u < c) ⊆ (Finset.univ.filter fun u => key ids u < key ids t) := by
      intro u hu
      simp only [Finset.mem_filter, Finset.mem_univ, true_and] at hu ⊢
      omega
    have := Finset.card_le_card this
    omega
  · intro h
    apply Finset.card_lt_card
    rw [Finset.ssubset_iff_of_subset]
    · exact ⟨t, by simp [h], by simp⟩
    · intro u hu
      simp only [Finset.mem_filter, Finset.mem_univ, true_and] at hu ⊢
      omega

theorem below_le (c : Int) : below ids c ≤ 1024 := by
  unfold below
  exact (Finset.card_le_univ _).trans (by simp)

theorem rank_lt (t : Fin 1024) : rank ids t < 1024 :=
  lt_of_lt_of_le ((rank_lt_below ids t (key ids t + 1)).2 (by omega)) (below_le ids _)

theorem rank_inj : Function.Injective (rank ids) := by
  intro u v h
  apply key_inj ids
  rcases lt_trichotomy (key ids u) (key ids v) with h1 | h1 | h1
  · have := (rank_lt_below ids u (key ids v)).2 h1
    unfold rank at h this; omega
  · exact h1
  · have := (rank_lt_below ids v (key ids u)).2 h1
    unfold rank at h this; omega

/-- The rank, as a permutation of the tokens. -/
def rankE : Fin 1024 ≃ Fin 1024 :=
  Equiv.ofBijective (fun t => (⟨rank ids t, rank_lt ids t⟩ : Fin 1024))
    ((Finite.injective_iff_bijective).1 fun u v h => rank_inj ids (congrArg Fin.val h))

/-- The token at position `k` of the order. -/
def order (k : Fin 1024) : Fin 1024 := (rankE ids).symm k

theorem rank_order (k : Fin 1024) : rank ids (order ids k) = k.val :=
  congrArg Fin.val ((rankE ids).apply_symm_apply k)

theorem order_rank (t : Fin 1024) : order ids ⟨rank ids t, rank_lt ids t⟩ = t :=
  (rankE ids).symm_apply_apply t

/-- Where the tokens of block `b` start in the order: how many ids lie below `256 * b`. -/
def start (b : ℕ) : ℕ := below ids ((256 * b : ℕ) * 1024)

theorem key_lt_iff (u : Fin 1024) (b : ℕ) : key ids u < ((256 * b : ℕ) : Int) * 1024 ↔ (ids u).toInt < ((256 * b : ℕ) : Int) := by
  unfold key
  have := u.isLt
  omega

theorem lt_start_iff (k : Fin 1024) (b : ℕ) : k.val < start ids b ↔ (ids (order ids k)).toInt < ((256 * b : ℕ) : Int) := by
  rw [← key_lt_iff, ← rank_lt_below, rank_order]; rfl

theorem start_le (b : ℕ) : start ids b ≤ 1024 := below_le ids _

theorem start_mono (b : ℕ) : start ids b ≤ start ids (b + 1) := by
  unfold start below
  apply Finset.card_le_card
  intro u hu
  simp only [Finset.mem_filter, Finset.mem_univ, true_and] at hu ⊢
  push_cast at hu ⊢
  omega

/-- A position of block `b`'s list holds a token whose id is a row of the block. -/
theorem row_of (b : ℕ) (k : Fin 1024) (h1 : start ids b ≤ k.val) (h2 : k.val < start ids (b + 1)) :
    ((256 * b : ℕ) : Int) ≤ (ids (order ids k)).toInt ∧ (ids (order ids k)).toInt < ((256 * b : ℕ) : Int) + 256 := by
  have a := (lt_start_iff ids k (b + 1)).1 h2
  have b' := (lt_start_iff ids k b).not.1 (by omega)
  push_cast at a b' ⊢
  omega

/-! The same counts, built up token by token as 32-bit words. -/

/-- Whether token `u` comes before token `t`. -/
def before (u t : Fin 1024) : Prop := (ids u).slt (ids t) ∨ (ids u = ids t ∧ u < t)

theorem before_iff (u t : Fin 1024) : before ids u t ↔ key ids u < key ids t := by
  unfold before key
  rw [← BitVec.toInt_inj, BitVec.slt_iff_toInt_lt, Fin.lt_def]
  have := u.isLt
  have := t.isLt
  omega

open Classical in
/-- How many of the first `n` tokens satisfy `p`. -/
def upto (p : Fin 1024 → Prop) : ℕ → ℕ
  | 0 => 0
  | n + 1 => upto p n + (if h : n < 1024 then (if p ⟨n, h⟩ then 1 else 0) else 0)

open Classical in
theorem upto_eq (p : Fin 1024 → Prop) (n : ℕ) : upto p n = (Finset.univ.filter fun u : Fin 1024 => u.val < n ∧ p u).card := by
  induction n with
  | zero => simp [upto]
  | succ n ih =>
    rw [upto, ih]
    by_cases h : n < 1024
    · rw [dif_pos h]
      by_cases hp : p ⟨n, h⟩
      · rw [if_pos hp]
        rw [← Finset.card_insert_of_notMem (a := ⟨n, h⟩) (by simp)]
        congr 1
        ext u
        simp only [Finset.mem_insert, Finset.mem_filter, Finset.mem_univ, true_and, Fin.ext_iff]
        constructor
        · rintro (h1 | h1)
          · refine ⟨by omega, ?_⟩
            rwa [show u = ⟨n, h⟩ from Fin.ext h1]
          · exact ⟨by omega, h1.2⟩
        · rintro ⟨h1, h2⟩
          by_cases h3 : u.val = n
          · exact Or.inl h3
          · exact Or.inr ⟨by omega, h2⟩
      · rw [if_neg hp, Nat.add_zero]
        congr 1
        ext u
        simp only [Finset.mem_filter, Finset.mem_univ, true_and]
        constructor
        · rintro ⟨h1, h2⟩; exact ⟨by omega, h2⟩
        · rintro ⟨h1, h2⟩
          refine ⟨?_, h2⟩
          by_contra h3
          apply hp
          rwa [show (⟨n, h⟩ : Fin 1024) = u from Fin.ext (by simp only []; omega)]
    · rw [dif_neg h, Nat.add_zero]
      congr 1
      ext u
      simp only [Finset.mem_filter, Finset.mem_univ, true_and]
      have := u.isLt
      constructor <;> rintro ⟨h1, h2⟩ <;> exact ⟨by omega, h2⟩

theorem upto_before (t : Fin 1024) : upto (fun u => before ids u t) 1024 = rank ids t := by
  rw [upto_eq]
  unfold rank below
  congr 1
  ext u
  simp only [Finset.mem_filter, Finset.mem_univ, true_and, before_iff]
  exact ⟨fun h => h.2, fun h => ⟨u.isLt, h⟩⟩

theorem upto_start (b : ℕ) : upto (fun u => (ids u).toInt < ((256 * b : ℕ) : Int)) 1024 = start ids b := by
  rw [upto_eq]
  unfold start below
  congr 1
  ext u
  simp only [Finset.mem_filter, Finset.mem_univ, true_and, key_lt_iff]
  exact ⟨fun h => h.2, fun h => ⟨u.isLt, h⟩⟩

end TokenSort

end
-- ==== Proof.KernelWords.lean ====
/-
  The integer payloads of the kernel body at an element, and reads of single words.
-/
module

public import proofs.«01_k».proof.Proof.Gen.Kernel.Launch
public import proofs.«01_k».proof.Proof.Gen.Kernel.Loops
public import proofs.«01_k».proof.Proof.Gen.Kernel.Skeleton
public import proofs.«01_k».proof.Proof.Gen.Kernel.Points
public import proofs.«01_k».proof.Proof.Sort
public import Idealize.ShloMosaic.Lib.Pipeline.FrameBody
public import Idealize.ShloMosaic.Lib.Tactic
public import Idealize.ShloMosaic.Lib.WordCmp
public import Idealize.ShloMosaic.Lib.ValueIdxCore

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

/-- Position `u` of a list of 1024. -/
def ix1 (u : Fin 1024) : S1024.Idx := fun a => ⟨u.val, by have := u.isLt; fin_cases a; exact this⟩
/-- The token of a lane of an (8, 128) register. -/
def lane (j : S8x128.Idx) : Fin 1024 := ⟨128 * (j 0).val + (j 1).val, by
  have h0 : (j 0).val < 8 := (j 0).isLt
  have h1 : (j 1).val < 128 := (j 1).isLt
  omega⟩
/-- The lane of a token. -/
def ix2 (u : Fin 1024) : S8x128.Idx := fun a => match a with
  | ⟨0, _⟩ => ⟨u.val / 128, by have := u.isLt; show _ < 8; omega⟩
  | ⟨1, _⟩ => ⟨u.val % 128, by show _ < 128; omega⟩

theorem lane_ix2 (u : Fin 1024) : lane (ix2 u) = u := by
  apply Fin.ext; unfold lane ix2; simp only []; omega

/-- The ids a list holds. -/
def toks (X : Vec F S1024 .i32) : Fin 1024 → BitVec 32 := fun u => X (ix1 u)

theorem rd1 {sp : Space} (v : View sig .tc sp S1024 .i32) (X : v.ty.Contents (Elt F)) {off : Fin 1 → ℕ} (h) (u : Fin 1024) (hu : off 0 = u.val)
    (x : (Rect.unit (s := S1024) off S1.size h).toLoadRect.shape.Idx) :
    v.readAt (Elt F) (Rect.unit (s := S1024) off S1.size h).toLoadRect X x = v.read (Elt F) X (ix1 u) := by
  rw [View.readAt_apply]
  refine congrArg (v.read (Elt F) X) (funext fun a => Fin.ext ?_)
  fin_cases a
  show off 0 + 1 * (x 0).val = u.val
  have h1 : (x 0).val < 1 := (x 0).isLt
  omega

theorem rd2 {sp : Space} (v : View sig .tc sp S8x128 .i32) (X : v.ty.Contents (Elt F)) {off : Fin 2 → ℕ} (h) (j : S8x128.Idx)
    (h0 : off 0 = (j 0).val) (h1 : off 1 = (j 1).val)
    (x : (Rect.unit (s := S8x128) off S1x1.size h).toLoadRect.shape.Idx) :
    v.readAt (Elt F) (Rect.unit (s := S8x128) off S1x1.size h).toLoadRect X x = v.read (Elt F) X j := by
  rw [View.readAt_apply]
  refine congrArg (v.read (Elt F) X) (funext fun a => Fin.ext ?_)
  have e0 : (x 0).val < 1 := (x 0).isLt
  have e1 : (x 1).val < 1 := (x 1).isLt
  fin_cases a
  · show off 0 + 1 * (x 0).val = (j 0).val
    omega
  · show off 1 + 1 * (x 1).val = (j 1).val
    omega

theorem pay2_apply (j : S8x128.Idx) : k0_pay2 j = BitVec.ofNat 32 (lane j).val := by
  have h0 : (j 0).val < 8 := (j 0).isLt
  have h1 : (j 1).val < 128 := (j 1).isLt
  unfold k0_pay2
  show BitVec.ofNat 32 (0 * 8 + (j 0).val) * 128#32 + BitVec.ofNat 32 (0 * 128 + (j 1).val) = _
  apply BitVec.eq_of_toNat_eq
  unfold lane
  simp only [BitVec.toNat_add, BitVec.toNat_mul, BitVec.toNat_ofNat]
  omega

theorem iv_eq (k : ℕ) : Scf.iv 0#32 1#32 k = BitVec.ofNat 32 k := by
  unfold Scf.iv; simp

theorem extui_bit (p : Prop) [Decidable p] (b : Bool) (h : b = true ↔ p) :
    (BitVec.ofBool b).setWidth 32 = if p then 1#32 else 0#32 := by
  by_cases hp : p
  · rw [if_pos hp, h.2 hp]; rfl
  · rw [if_neg hp, Bool.eq_false_iff.2 (mt h.1 hp)]; rfl

theorem slt_small {a b : ℕ} (ha : a < 2 ^ 31) (hb : b < 2 ^ 31) : (BitVec.ofNat 32 a).slt (BitVec.ofNat 32 b) = true ↔ a < b := by
  rw [BitVec.slt_iff_toInt_lt, WordCmp.toInt_ofNat_of_lt (by simpa using ha), WordCmp.toInt_ofNat_of_lt (by simpa using hb)]
  omega

theorem pay4_apply (k : Fin k0_t2_loop.trips) (acc : IVec S1x128 32) (w : Elt F .i32) (j : S1x128.Idx) :
    k0_pay4 (F := F) k acc w j = if (j 1).val = k.val then w else acc j := by
  have h0 : (j 0).val < 1 := (j 0).isLt
  have h1 : (j 1).val < 128 := (j 1).isLt
  have hk : k.val < 128 := Nat.lt_of_lt_of_le k.isLt k0_t2_abs.2.1
  unfold k0_pay4
  show (if BitVec.ofBool (k0_pay2 _ == Scf.iv 0#32 1#32 k) = 1#1 then w else acc j) = _
  rw [pay2_apply, iv_eq]
  refine if_congr ?_ rfl rfl
  rw [WordCmp.ofBool_eq_one_iff, beq_iff_eq, WordCmp.ofNat_eq_ofNat_iff (lt_trans (lane _).isLt (by norm_num)) (lt_trans hk (by norm_num))]
  show 128 * (0 + (j 0).val) + (0 + (j 1).val) = k.val ↔ _
  omega

theorem pay8_apply (v232 : Vec F S8x128 .i32) (k : Fin k0_t3_loop.trips) (acc : IVec S8x128 32) (w : Elt F .i32) (j : S8x128.Idx) :
    k0_pay8 (F := F) v232 k acc w j
      = acc j + (if BitVec.slt w (v232 j) = true ∨ (w = v232 j ∧ k.val < (lane j).val) then 1#32 else 0#32) := by
  have hk : k.val < 1024 := Nat.lt_of_lt_of_le k.isLt k0_t3_abs.2.1
  have hj := (lane j).isLt
  unfold k0_pay8
  show acc j + (BitVec.ofBool (BitVec.slt w (v232 j)) ||| (BitVec.ofBool (w == v232 j) &&& BitVec.ofBool ((Scf.iv 0#32 1#32 k).slt (k0_pay2 j)))).setWidth 32 = _
  rw [pay2_apply, iv_eq]
  congr 1
  have e : ∀ a b c : Bool, (BitVec.ofBool a ||| (BitVec.ofBool b &&& BitVec.ofBool c)) = BitVec.ofBool (a || (b && c)) := by decide
  rw [e]
  refine extui_bit _ _ ?_
  rw [Bool.or_eq_true, Bool.and_eq_true, slt_small (by omega) (by omega), beq_iff_eq]

theorem pay9_apply (acc : IVec S8x128 32) (w : Elt F .i32) (j : S8x128.Idx) :
    k0_pay9 (F := F) acc w j = acc j + (if BitVec.toInt w < ((256 * (lane j).val : ℕ) : Int) then 1#32 else 0#32) := by
  have hj := (lane j).isLt
  unfold k0_pay9
  show acc j + (BitVec.ofBool (BitVec.slt w (k0_pay2 j * 256#32))).setWidth 32 = _
  congr 1
  refine extui_bit _ _ ?_
  have e : k0_pay2 j * 256#32 = BitVec.ofNat 32 (256 * (lane j).val) := by
    rw [pay2_apply]
    apply BitVec.eq_of_toNat_eq
    simp only [BitVec.toNat_mul, BitVec.toNat_ofNat]
    omega
  rw [e, BitVec.slt_iff_toInt_lt, WordCmp.toInt_ofNat_of_lt (by norm_num; omega)]

theorem off6_eq (i : grid0.Coords) : k0_off6 i = ![(i 0).val / 128, (i 0).val % 128] := by
  revert i; decide +kernel
theorem off7_eq (i : grid0.Coords) : k0_off7 i = ![((i 0).val + 1) / 128, ((i 0).val + 1) % 128] := by
  revert i; decide +kernel

theorem off5_eq (w : BitVec 32) : k0_off5 w = ![w.toNat] := rfl
theorem off9_eq (w : BitVec 32) : k0_off9 w = ![w.toNat] := rfl
/-- Whether a token's number is even, as the kernel computes it. -/
def even (w : BitVec 32) : BitVec 1 :=
  let v243 : BitVec 1 := Scalar.cmpi .eq 2#32 0#32
  let v244 : BitVec 32 := Scalar.select v243 1#32 2#32
  let v245 : BitVec 32 := Scalar.remsi w v244
  let v246 : BitVec 1 := Scalar.cmpi .ne v245 0#32
  let v247 : BitVec 1 := Scalar.cmpi .slt v245 0#32
  let v248 : BitVec 1 := Scalar.cmpi .slt v244 0#32
  let v249 : BitVec 1 := Scalar.xori v247 v248
  let v250 : BitVec 1 := Scalar.andi v249 v246
  let v251 : BitVec 32 := Scalar.addi v245 v244
  let v252 : BitVec 32 := Scalar.select v250 v251 v245
  Scalar.cmpi .eq v252 0#32

/-- The pair of rows that holds a token's. -/
theorem off10_eq : ∀ w : Fin 1024, k0_off10 (BitVec.ofNat 32 w.val) = ![2 * (w.val / 2), 0] := by
  decide +kernel

theorem divsi_one (x : BitVec 32) : Scalar.divsi x 1#32 = x := by
  unfold Scalar.divsi IntOp.divsi
  rw [if_neg (by unfold IntOp.SDivCorner; simp), BitVec.sdiv_one]

theorem t6_eq (a b : BitVec 32) : k0_t6_loop a b = ⟨a, b, 1#32⟩ := by
  show (⟨a, a + Scalar.muli (Scalar.divsi (b - a) 1#32) 1#32, 1#32⟩ : Scf.Loop 32) = _
  rw [divsi_one]
  show (⟨a, a + (b - a) * 1#32, 1#32⟩ : Scf.Loop 32) = _
  rw [BitVec.mul_one, BitVec.add_comm, BitVec.sub_add_cancel]
theorem t7_eq (a b : BitVec 32) : k0_t7_loop a b = ⟨b, b, 1#32⟩ := by
  show (⟨a + Scalar.muli (Scalar.divsi (b - a) 1#32) 1#32, a + (b - a), 1#32⟩ : Scf.Loop 32) = _
  rw [divsi_one]
  show (⟨a + (b - a) * 1#32, a + (b - a), 1#32⟩ : Scf.Loop 32) = _
  rw [BitVec.mul_one, BitVec.add_comm, BitVec.sub_add_cancel]

theorem trips_small {a b : ℕ} (hb : b ≤ 1024) (hab : a ≤ b) : Scf.trips (BitVec.ofNat 32 a) (BitVec.ofNat 32 b) 1#32 = b - a := by
  unfold Scf.trips
  rw [WordCmp.toInt_ofNat_of_lt (by norm_num; omega), WordCmp.toInt_ofNat_of_lt (by norm_num; omega)]
  show (((b : Int) - a + 1 - 1) / 1).toNat = _
  omega

theorem t6_trips {a b : ℕ} (hb : b ≤ 1024) (hab : a ≤ b) : (k0_t6_loop (BitVec.ofNat 32 a) (BitVec.ofNat 32 b)).trips = b - a := by
  rw [t6_eq]; exact trips_small hb hab
theorem t7_trips {a b : ℕ} (hb : b ≤ 1024) : (k0_t7_loop (BitVec.ofNat 32 a) (BitVec.ofNat 32 b)).trips = 0 := by
  rw [t7_eq]; exact (trips_small hb le_rfl).trans (Nat.sub_self _)

theorem ok_small {a b : ℕ} (hb : b ≤ 1024) (hab : a ≤ b) : Scf.OK (BitVec.ofNat 32 a) (BitVec.ofNat 32 b) 1#32 := by
  refine ⟨by decide, ?_⟩
  rw [trips_small hb hab, WordCmp.toInt_ofNat_of_lt (by norm_num; omega)]
  show (a : Int) + ((b - a : ℕ) : Int) * 1 < _
  norm_num; omega

theorem iv_add {a k : ℕ} : Scf.iv (BitVec.ofNat 32 a) 1#32 k = BitVec.ofNat 32 (a + k) := by
  unfold Scf.iv; rw [BitVec.mul_one, BitVec.ofNat_add]

theorem off8_eq {a b : ℕ} (hb : b ≤ 1024) (hab : a ≤ b) (k : Fin (k0_t6_loop (BitVec.ofNat 32 a) (BitVec.ofNat 32 b)).trips) :
    k0_off8 _ _ k = ![a + k.val] := by
  have hk := lt_of_lt_of_eq k.isLt (t6_trips hb hab)
  show ![(Scf.iv (BitVec.ofNat 32 a) 1#32 k).toNat] = _
  rw [iv_add, BitVec.toNat_ofNat, Nat.mod_eq_of_lt (by omega)]

theorem chk2_of {a b : ℕ} (hb : b ≤ 1024) (hab : a ≤ b) : k0_chk2 (BitVec.ofNat 32 a) (BitVec.ofNat 32 b) := by
  refine ⟨?_, ?_, ?_, ?_⟩
  · rw [t6_eq]; exact ok_small hb hab
  · intro k x
    have hk := lt_of_lt_of_eq k.isLt (t6_trips hb hab)
    rw [off8_eq hb hab]
    fin_cases x
    show a + k.val + 1 ≤ 1024
    omega
  · rw [t7_eq]; exact ok_small hb le_rfl
  · intro k
    exact absurd (lt_of_lt_of_eq k.isLt (t7_trips hb)) (Nat.not_lt_zero _)

/-- The row of its block an id names. -/
theorem off11_eq (i : grid0.Coords) (w : BitVec 32) (r : ℕ) (hr : r < 256) (h : w.toInt = ((256 * (i 0).val : ℕ) : Int) + r) :
    k0_off11 i w = ![r, 0] := by
  have hi : (i 0).val < 125 := (i 0).isLt
  show ![(w - BitVec.ofNat 32 (i 0).val * 256#32).toNat, 0] = _
  have : w = BitVec.ofNat 32 (256 * (i 0).val + r) := by
    apply BitVec.eq_of_toInt_eq
    rw [WordCmp.toInt_ofNat_of_lt (by norm_num; omega), h]; push_cast; omega
  have e : (w - BitVec.ofNat 32 (i 0).val * 256#32).toNat = r := by
    rw [this]
    simp only [BitVec.toNat_sub, BitVec.toNat_mul, BitVec.toNat_ofNat]
    omega
  rw [e]

end Cert.Kernel.Hand
end
-- ==== Proof.KernelLoops.lean ====
/-
  The invariants of the loops of the kernel body.
-/
module

public import proofs.«01_k».proof.Proof.Gen.Kernel.Launch
public import proofs.«01_k».proof.Proof.Gen.Kernel.Loops
public import proofs.«01_k».proof.Proof.Gen.Kernel.Skeleton
public import proofs.«01_k».proof.Proof.Gen.Kernel.Points
public import proofs.«01_k».proof.Proof.KernelWords
public import Idealize.ShloMosaic.Lib.Pipeline.FrameBody
public import Idealize.ShloMosaic.Lib.Tactic
public import Idealize.ShloMosaic.Lib.WordCmp
public import Idealize.ShloMosaic.Lib.WritesUnit
public import Idealize.ShloMosaic.Lib.Pointwise.Reshape

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

abbrev hb4 : Memref sig .tc .hbm S1024x4096 .fp8e4m3 := Memref.whole main_v2
abbrev hb8 : Memref sig .tc .hbm S1024x4096 .bf16 := Memref.whole main_v4
abbrev sc11 : Memref sig .tc .vmem S128x4096 .fp8e4m3 := Memref.whole cc0_scratch0
abbrev sc12 : Memref sig .tc .vmem S1024x4096 .bf16 := Memref.whole cc0_scratch1
abbrev sc13 : Memref sig .tc .vmem S1024x4096 .f32 := Memref.whole cc0_scratch2
abbrev sc14 : Memref sig .tc .vmem S1024x4096 .bf16 := Memref.whole cc0_scratch3
abbrev sc15 : Memref sig .tc .vmem S1024x256 .bf16 := Memref.whole cc0_scratch4
abbrev sc16 : Memref sig .tc .vmem S256x1024 .bf16 := Memref.whole cc0_scratch5
abbrev sc17 : Memref sig .tc .vmem S8x128 .i32 := Memref.whole cc0_scratch6
abbrev sc18 : Memref sig .tc .vmem S8x128 .i32 := Memref.whole cc0_scratch7
abbrev sc19 : Memref sig .tc .smem S8x128 .i32 := Memref.whole cc0_scratch8
abbrev sc20 : Memref sig .tc .smem S1024 .i32 := Memref.whole cc0_scratch9
abbrev sc21 : Memref sig .tc .smem S8x128 .i32 := Memref.whole cc0_scratch10

/-- What a memref's buffer holds. -/
abbrev Cts (c : Dev nD) {sp : Space} {S : Shape} {e : EltTy} (M : Memref sig .tc sp S e) : Type := Buf (Elt F) (M.view.loc (c : Thread nD τ))
/-- A memref's buffer, held whole at `f`. -/
abbrev pt (c : Dev nD) {sp : Space} {S : Shape} {e : EltTy} (M : Memref sig .tc sp S e) (f : Cts (F := F) c M) : sProp 𝕄 :=
  M.view.loc (c : Thread nD τ) ↦[M.view.set]{fullShare} f

/-- Gathering one row of 128 ids, a lane at a time. -/
def I2 (c : Dev nD) (arg1 : Memref sig .tc .smem S1024 .i32) (X1 : Cts (F := F) c arg1) (t : ℕ) (k : ℕ) (acc : IVec S1x128 32) : sProp 𝕄 :=
  iprop(pt c arg1 X1 ∗ ⌜∀ (j : S1x128.Idx) (u : Fin 1024), (j 1).val < k → u.val = 128 * t + (j 1).val →
    acc j = toks (arg1.view.read (Elt F) X1) u⌝)

/-- Gathering all the ids into an (8, 128) register, a row at a time. -/
def I1 (c : Dev nD) (arg1 : Memref sig .tc .smem S1024 .i32) (X1 : Cts (F := F) c arg1) (k : ℕ) (_ : Unit) : sProp 𝕄 :=
  iprop(pt c arg1 X1 ∗ ∃ f17, ⌜∀ j : S8x128.Idx, (j 0).val < k → sc17.view.read (Elt F) f17 j = toks (arg1.view.read (Elt F) X1) (lane j)⌝ ∗ pt c sc17 f17)

/-- Ranking the ids: after `k` tokens, how many of them come before each token, and how many lie below each block. -/
def I3 (c : Dev nD) (arg1 : Memref sig .tc .smem S1024 .i32) (X1 : Cts (F := F) c arg1) (k : ℕ) (acc : IVec S8x128 32 × IVec S8x128 32) : sProp 𝕄 :=
  iprop(pt c arg1 X1 ∗ ⌜∀ j : S8x128.Idx,
    acc.1 j = BitVec.ofNat 32 (TokenSort.upto (fun u => TokenSort.before (toks (arg1.view.read (Elt F) X1)) u (lane j)) k) ∧
    acc.2 j = BitVec.ofNat 32 (TokenSort.upto (fun u => BitVec.toInt (toks (arg1.view.read (Elt F) X1) u) < ((256 * (lane j).val : ℕ) : Int)) k)⌝)

/-- Placing tokens at their ranks: the first `n` tokens are in place. -/
def I5 (c : Dev nD) (g : Fin 1024 → BitVec 32) (X19 : Cts (F := F) c sc19) (n : ℕ) : sProp 𝕄 :=
  iprop(pt c sc19 X19 ∗ ∃ f20, ⌜∀ u : Fin 1024, u.val < n →
    toks (sc20.view.read (Elt F) f20) ⟨TokenSort.rank g u, TokenSort.rank_lt g u⟩ = BitVec.ofNat 32 u.val⌝ ∗ pt c sc20 f20)

/-- Element `k` of a token's row. -/
def ixD (t : Fin 1024) (k : Fin 4096) : S1024x4096.Idx := fun a => match a with | ⟨0, _⟩ => t | ⟨1, _⟩ => k

/-- Element `k` of a block's row. -/
def ixB (r : Fin 256) (k : Fin 4096) : S256x4096.Idx := fun a => match a with | ⟨0, _⟩ => r | ⟨1, _⟩ => k

/-- Element `k` of a single row. -/
def ixR (k : Fin 4096) : S1x4096.Idx := fun a => match a with | ⟨0, _⟩ => ⟨0, Nat.one_pos⟩ | ⟨1, _⟩ => k

/-- The pair of rows that holds a token's. -/
def pairOf (D : Vec F S1024x4096 .bf16) (t : Fin 1024) : Vec F S2x4096 .bf16 :=
  fun y => D (ixD ⟨2 * (t.val / 2) + (y 0).val, by have h : (y 0).val < 2 := (y 0).isLt; have := t.isLt; omega⟩ (y 1))

/-- A token's row, out of its pair, added to a row of the block. -/
def addPair (p : Vec F S2x4096 .bf16) (w : BitVec 32) (x : Vec F S1x4096 .f32) : FVec F S1x4096 .f32 :=
  k0_pay335 (k0_pay301 p) (even w) (k0_pay302 p) 4294901760#32 x

/-- One token's row of the embedding gradient added to the row of the block its id names. -/
def addRow (g : Fin 1024 → BitVec 32) (D : Vec F S1024x4096 .bf16) (b : ℕ) (t : Fin 1024) (B : Vec F S256x4096 .f32) : Vec F S256x4096 .f32 :=
  fun j => if (g t).toInt = ((256 * b + (j 0).val : ℕ) : Int)
    then addPair (pairOf D t) (BitVec.ofNat 32 t.val) (fun y => B (ixB (j 0) (y 1))) (ixR (j 1)) else B j

/-- The rows of `k` tokens added in order, from position `a` of the order. -/
def addRows (g : Fin 1024 → BitVec 32) (D : Vec F S1024x4096 .bf16) (b a : ℕ) (B : Vec F S256x4096 .f32) : ℕ → Vec F S256x4096 .f32
  | 0 => B
  | k + 1 => if h : a + k < 1024 then addRow g D b (TokenSort.order g ⟨a + k, h⟩) (addRows g D b a B k) else addRows g D b a B k

/-- Adding the rows of the block's tokens. -/
def I6 (c : Dev nD) (arg1 : Memref sig .tc .smem S1024 .i32) (arg9 : Memref sig .tc .vmem S256x4096 .f32) (X1 : Cts (F := F) c arg1)
    (X14 : Cts (F := F) c sc14) (X20 : Cts (F := F) c sc20) (b : ℕ) (B : Vec F S256x4096 .f32) (k : ℕ) (_ : BitVec 32) : sProp 𝕄 :=
  iprop(pt c arg1 X1 ∗ pt c sc14 X14 ∗ pt c sc20 X20 ∗ ∃ f9, ⌜arg9.view.read (Elt F) f9
    = addRows (toks (arg1.view.read (Elt F) X1)) (sc14.view.read (Elt F) X14) b (TokenSort.start (toks (arg1.view.read (Elt F) X1)) b) B k⌝ ∗ pt c arg9 f9)

theorem if_bit {p q : Prop} {d : Decidable p} {d' : Decidable q} (h : p ↔ q) :
    (if p then 1#32 else 0#32) = BitVec.ofNat 32 (@ite ℕ q d' 1 0) := by
  by_cases hp : p
  · rw [if_pos hp, if_pos (h.1 hp)]
  · rw [if_neg hp, if_neg (mt h.2 hp)]

/-- One element of a row read from a two-axis buffer. -/
theorem rdRow {sp : Space} {d0 d1 m : ℕ} {e : EltTy} (v : View sig .tc sp (⟨2, ![d0, d1]⟩ : Shape) e) (X : v.ty.Contents (Elt F)) {off : Fin 2 → ℕ} (h)
    (r c : ℕ) (h0 : off 0 = r) (h1 : off 1 = c) (x : (⟨2, ![1, m]⟩ : Shape).Idx)
    (j : (⟨2, ![d0, d1]⟩ : Shape).Idx) (e0 : (j 0).val = r) (e1 : (j 1).val = c + (x 1).val) :
    v.readAt (Elt F) (Rect.unit (s := (⟨2, ![d0, d1]⟩ : Shape)) off ![1, m] h).toLoadRect X x = v.read (Elt F) X j := by
  rw [View.readAt_apply]
  refine congrArg (v.read (Elt F) X) (funext (Fin.forall_fin_two.2 ⟨Fin.ext ?_, Fin.ext ?_⟩))
  · show off 0 + 1 * (x 0).val = (j 0).val
    have : (x 0).val < 1 := (x 0).isLt
    omega
  · show off 1 + 1 * (x 1).val = (j 1).val
    omega

theorem rdPair {sp : Space} {d0 d1 m : ℕ} {e : EltTy} (v : View sig .tc sp (⟨2, ![d0, d1]⟩ : Shape) e) (X : v.ty.Contents (Elt F)) {off : Fin 2 → ℕ} (h)
    (r c : ℕ) (h0 : off 0 = r) (h1 : off 1 = c) (x : (⟨2, ![2, m]⟩ : Shape).Idx)
    (j : (⟨2, ![d0, d1]⟩ : Shape).Idx) (e0 : (j 0).val = r + (x 0).val) (e1 : (j 1).val = c + (x 1).val) :
    v.readAt (Elt F) (Rect.unit (s := (⟨2, ![d0, d1]⟩ : Shape)) off ![2, m] h).toLoadRect X x = v.read (Elt F) X j := by
  rw [View.readAt_apply]
  refine congrArg (v.read (Elt F) X) (funext (Fin.forall_fin_two.2 ⟨Fin.ext ?_, Fin.ext ?_⟩))
  · show off 0 + 1 * (x 0).val = (j 0).val
    omega
  · show off 1 + 1 * (x 1).val = (j 1).val
    omega

variable (c : Dev nD) (i : grid0.Coords) (arg1 : Memref sig .tc .smem S1024 .i32) (harg1 : arg1.IsWhole) (arg2 : Memref sig .tc .vmem S1024x256 .fp8e5m2) (harg2 : arg2.IsWhole) (arg3 : Memref sig .tc .vmem S2x4x256 .f32) (harg3 : arg3.IsWhole) (arg5 : Memref sig .tc .vmem S2x512 .f32) (harg5 : arg5.IsWhole) (arg6 : Memref sig .tc .vmem S256x4096 .i8) (harg6 : arg6.IsWhole) (arg7 : Memref sig .tc .vmem S1x1x256 .f32) (harg7 : arg7.IsWhole) (arg9 : Memref sig .tc .vmem S256x4096 .f32) (harg9 : arg9.IsWhole) (arg10 : Memref sig .tc .vmem S1024x4096 .bf16) (harg10 : arg10.IsWhole)

theorem I2_step (X1 : Cts (F := F) c arg1) (k0_h1 : k0_cond1 i = 1#1) (k0_t1 : Fin k0_t1_loop.trips) (k : Fin k0_t2_loop.trips) (acc : IVec S1x128 32) :
    I2 c arg1 X1 k0_t1 k acc ⊢ wp frame (wpE defs₀ Variants.none c none) Set.univ (k0_t2_body (F := F) i arg1 harg1 arg2 harg2 arg3 harg3 hb4 (Memref.isWhole_whole _) arg5 harg5 arg6 harg6 arg7 harg7 hb8 (Memref.isWhole_whole _) arg9 harg9 arg10 harg10 sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) sc20 (Memref.isWhole_whole _) sc21 (Memref.isWhole_whole _) cc0_scratch11 cc0_scoped0 cc0_scoped1 cc0_scoped2 cc0_scoped3 cc0_scoped4 cc0_scoped5 cc0_scoped6 cc0_scoped7 k0_h1 k0_t1 k acc) (I2 c arg1 X1 k0_t1 (k.val + 1)) := by
  unfold k0_t2_body I2
  iintro ⟨H1, %h⟩
  sl_exec
  sl_step
  isplitl [H1]; · iexact H1
  ipureintro
  unfold I2_step.sl.r
  intro j u hj hu
  rw [pay4_apply]
  have e := k0_off1_eq k0_t1 k
  split_ifs with hjk
  · exact rd1 arg1.view X1 _ u (by rw [e, hu, hjk]; rfl) _
  · exact h j u (by omega) hu

theorem I1_step (X1 : Cts (F := F) c arg1) (k0_h1 : k0_cond1 i = 1#1) (k : Fin k0_t1_loop.trips) (acc : Unit) :
    I1 c arg1 X1 k acc ⊢ wp frame (wpE defs₀ Variants.none c none) Set.univ (k0_t1_body (F := F) i arg1 harg1 arg2 harg2 arg3 harg3 hb4 (Memref.isWhole_whole _) arg5 harg5 arg6 harg6 arg7 harg7 hb8 (Memref.isWhole_whole _) arg9 harg9 arg10 harg10 sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) sc20 (Memref.isWhole_whole _) sc21 (Memref.isWhole_whole _) cc0_scratch11 cc0_scoped0 cc0_scoped1 cc0_scoped2 cc0_scoped3 cc0_scoped4 cc0_scoped5 cc0_scoped6 cc0_scoped7 k0_h1 k acc) (I1 c arg1 X1 (k.val + 1)) := by
  unfold k0_t1_body I1
  iintro ⟨H1, %f17, %h, H17⟩
  iapply (Scf.wp_for_bind _ _ _ _ _ _ _ _ _ (I2 c arg1 X1 k) (I2_step c i arg1 harg1 arg2 harg2 arg3 harg3 arg5 harg5 arg6 harg6 arg7 harg7 arg9 harg9 arg10 harg10 X1 k0_h1 k)) $$ [H1]
  · unfold I2
    isplitl [H1]; · iexact H1
    ipureintro
    intro j u hj
    exact absurd hj (Nat.not_lt_zero _)
  iintro %acc2 HI
  unfold I2
  icases HI with ⟨H1, %h2⟩
  sl_exec
  sl_step
  isplitl [H1]; · iexact H1
  iexists _; isplitr [H17]; swap; · iexact H17
  ipureintro
  intro j hj
  have h0 : (j 0).val < 8 := (j 0).isLt
  have h1 : (j 1).val < 128 := (j 1).isLt
  rw [View.read_writes_cons_unit (heq := k0_off2_eq k), View.writes_nil]
  split_ifs with hc
  · have hc0 : k.val ≤ (j 0).val ∧ (j 0).val < k.val + 1 := hc 0
    unfold k0_pay5
    rw [shapeCast_id]
    refine h2 _ (lane j) ?_ ?_
    · show (j 1).val - 0 < 128
      omega
    · show 128 * (j 0).val + (j 1).val = 128 * k.val + ((j 1).val - 0)
      omega
  · refine h j ?_
    by_contra hlt
    refine hc fun a => ?_
    fin_cases a
    · show k.val ≤ (j 0).val ∧ (j 0).val < k.val + 1
      omega
    · show 0 ≤ (j 1).val ∧ (j 1).val < 0 + 128
      omega

theorem I3_step (X1 : Cts (F := F) c arg1) (k0_h1 : k0_cond1 i = 1#1) (v232 : Vec F S8x128 .i32)
    (hv : ∀ j, v232 j = toks (arg1.view.read (Elt F) X1) (lane j)) (init : IVec S8x128 32 × IVec S8x128 32)
    (k : Fin k0_t3_loop.trips) (acc : IVec S8x128 32 × IVec S8x128 32) :
    I3 c arg1 X1 k acc ⊢ wp frame (wpE defs₀ Variants.none c none) Set.univ (k0_t3_body (F := F) i arg1 harg1 arg2 harg2 arg3 harg3 hb4 (Memref.isWhole_whole _) arg5 harg5 arg6 harg6 arg7 harg7 hb8 (Memref.isWhole_whole _) arg9 harg9 arg10 harg10 sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) sc20 (Memref.isWhole_whole _) sc21 (Memref.isWhole_whole _) cc0_scratch11 cc0_scoped0 cc0_scoped1 cc0_scoped2 cc0_scoped3 cc0_scoped4 cc0_scoped5 cc0_scoped6 cc0_scoped7 k0_h1 v232 k acc) (I3 c arg1 X1 (k.val + 1)) := by
  obtain ⟨acc1, acc2⟩ := acc
  unfold k0_t3_body I3
  iintro ⟨H1, %h⟩
  sl_exec
  sl_step
  isplitl [H1]; · iexact H1
  ipureintro
  unfold I3_step.sl.r
  have hk : k.val < 1024 := Nat.lt_of_lt_of_le k.isLt k0_t3_abs.2.1
  intro j
  obtain ⟨h1, h2⟩ := h j
  simp only at h1 h2
  rw [show View.readAt (Elt F) arg1.view _ X1 _ = toks (arg1.view.read (Elt F) X1) ⟨k.val, hk⟩ from rd1 arg1.view X1 _ ⟨k.val, hk⟩ (by rw [k0_off3_eq]; rfl) _]
  refine ⟨?_, ?_⟩
  · show k0_pay8 _ _ _ _ _ = _
    rw [pay8_apply, hv, h1, TokenSort.upto, dif_pos hk, BitVec.ofNat_add]
    congr 1
    exact if_bit Iff.rfl
  · show k0_pay9 (F := F) _ _ _ = _
    rw [pay9_apply, h2, TokenSort.upto, dif_pos hk, BitVec.ofNat_add]
    congr 1
    exact if_bit Iff.rfl

theorem I5_step (g : Fin 1024 → BitVec 32) (X19 : Cts (F := F) c sc19) (hX : ∀ j, sc19.view.read (Elt F) X19 j = BitVec.ofNat 32 (TokenSort.rank g (lane j)))
    (k0_h1 : k0_cond1 i = 1#1) (k0_t4 : Fin k0_t4_loop.trips) (k : Fin k0_t5_loop.trips) (acc : Unit) :
    I5 c g X19 (128 * k0_t4.val + k.val) ⊢ wp frame (wpE defs₀ Variants.none c none) Set.univ
      (k0_t5_body (F := F) i arg1 harg1 arg2 harg2 arg3 harg3 hb4 (Memref.isWhole_whole _) arg5 harg5 arg6 harg6 arg7 harg7 hb8 (Memref.isWhole_whole _) arg9 harg9 arg10 harg10 sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) sc20 (Memref.isWhole_whole _) sc21 (Memref.isWhole_whole _) cc0_scratch11 cc0_scoped0 cc0_scoped1 cc0_scoped2 cc0_scoped3 cc0_scoped4 cc0_scoped5 cc0_scoped6 cc0_scoped7 k0_h1 k0_t4 (Scf.iv 0#32 1#32 k0_t4) k acc) (fun _ => I5 c g X19 (128 * k0_t4.val + (k.val + 1))) := by
  have hk : k.val < 128 := Nat.lt_of_lt_of_le k.isLt k0_t5_abs.2.1
  have hk4 : k0_t4.val < 8 := Nat.lt_of_lt_of_le k0_t4.isLt k0_t4_abs.2.1
  unfold k0_t5_body I5
  iintro ⟨H19, %f20, %h, H20⟩
  sl_exec
  have hr : I5_step.sl.r c i X19 k0_h1 k0_t4 k = BitVec.ofNat 32 (TokenSort.rank g ⟨128 * k0_t4.val + k.val, by omega⟩) := by
    unfold I5_step.sl.r
    rw [rd2 sc19.view X19 _ (ix2 ⟨128 * k0_t4.val + k.val, by omega⟩) (by rw [k0_off4_eq]; show k0_t4.val = (128 * k0_t4.val + k.val) / 128; omega)
      (by rw [k0_off4_eq]; show k.val = (128 * k0_t4.val + k.val) % 128; omega) _, hX, lane_ix2]
  have hb := TokenSort.rank_lt g ⟨128 * k0_t4.val + k.val, by omega⟩
  have hn : (BitVec.ofNat 32 (TokenSort.rank g ⟨128 * k0_t4.val + k.val, by omega⟩)).toNat = TokenSort.rank g ⟨128 * k0_t4.val + k.val, by omega⟩ := by
    rw [BitVec.toNat_ofNat, Nat.mod_eq_of_lt (by omega)]
  have hc : k0_chk1 i (I5_step.sl.r c i X19 k0_h1 k0_t4 k) := by
    intro _ a
    rw [hr, off5_eq, hn]
    revert a
    refine Fin.forall_fin_one.2 ?_
    show TokenSort.rank g _ + 1 ≤ 1024
    omega
  sl_exec
  sl_step
  isplitl [H19]; · iexact H19
  iexists _; isplitr [H20]; swap; · iexact H20
  ipureintro
  intro u hu
  have hv : I5_step.sl.v1836 k0_t4 k = BitVec.ofNat 32 (128 * k0_t4.val + k.val) := by
    show Scf.iv 0#32 1#32 k0_t4 * 128#32 + Scf.iv 0#32 1#32 k = _
    rw [iv_eq, iv_eq]
    apply BitVec.eq_of_toNat_eq
    simp only [BitVec.toNat_add, BitVec.toNat_mul, BitVec.toNat_ofNat]
    omega
  have ho : k0_off5 (I5_step.sl.r c i X19 k0_h1 k0_t4 k) = ![TokenSort.rank g ⟨128 * k0_t4.val + k.val, by omega⟩] := by rw [hr, off5_eq, hn]
  unfold toks
  rw [View.read_writes_cons_unit (heq := ho), View.writes_nil]
  split_ifs with hm
  · have hm0 : TokenSort.rank g ⟨128 * k0_t4.val + k.val, by omega⟩ ≤ TokenSort.rank g u ∧ TokenSort.rank g u < TokenSort.rank g ⟨128 * k0_t4.val + k.val, by omega⟩ + 1 := hm 0
    have hu' := TokenSort.rank_inj g (show TokenSort.rank g u = TokenSort.rank g ⟨128 * k0_t4.val + k.val, by omega⟩ by omega)
    rw [hv, hu']
  · refine h u ?_
    by_contra hlt
    refine hm (Fin.forall_fin_one.2 ?_)
    have hu' : u = ⟨128 * k0_t4.val + k.val, by omega⟩ := Fin.ext (by show u.val = 128 * k0_t4.val + k.val; omega)
    rw [hu']
    show TokenSort.rank g _ ≤ TokenSort.rank g _ ∧ TokenSort.rank g _ < TokenSort.rank g _ + 1
    omega

theorem I6_step (X1 : Cts (F := F) c arg1)
    (X14 : Cts (F := F) c sc14) (X20 : Cts (F := F) c sc20)
    (h20 : ∀ k, toks (sc20.view.read (Elt F) X20) k = BitVec.ofNat 32 (TokenSort.order (toks (arg1.view.read (Elt F) X1)) k).val) (B : Vec F S256x4096 .f32)
    (v203 v206 arg0 v161 v171 v172 init : BitVec 32)
    (e203 : v203 = BitVec.ofNat 32 (TokenSort.start (toks (arg1.view.read (Elt F) X1)) (i 0).val))
    (e206 : v206 = BitVec.ofNat 32 (TokenSort.start (toks (arg1.view.read (Elt F) X1)) ((i 0).val + 1)))
    (k0_hw2 : k0_chk2 v203 v206) (k : Fin (k0_t6_loop v203 v206).trips) (acc : BitVec 32) :
    I6 c arg1 arg9 X1 X14 X20 (i 0).val B k acc ⊢ wp frame (wpE defs₀ Variants.none c none) Set.univ
      (k0_t6_body (F := F) i arg1 harg1 arg2 harg2 arg3 harg3 hb4 (Memref.isWhole_whole _) arg5 harg5 arg6 harg6 arg7 harg7 hb8 (Memref.isWhole_whole _) arg9 harg9 arg10 harg10 sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) sc20 (Memref.isWhole_whole _) sc21 (Memref.isWhole_whole _) cc0_scratch11 cc0_scoped0 cc0_scoped1 cc0_scoped2 cc0_scoped3 cc0_scoped4 cc0_scoped5 cc0_scoped6 cc0_scoped7 arg0 v161 v171 v172 v203 v206 k0_hw2 k acc) (I6 c arg1 arg9 X1 X14 X20 (i 0).val B (k.val + 1)) := by
  subst e203 e206
  unfold k0_t6_body I6
  simp only [k0_part52_eq_skeleton]; unfold k0_part52_skel
  iintro ⟨H1, H14, H20, %f9, %h, H9⟩
  generalize hg : toks (arg1.view.read (Elt F) X1) = g at *
  have hb : TokenSort.start g ((i 0).val + 1) ≤ 1024 := TokenSort.start_le g _
  have hab := TokenSort.start_mono g (i 0).val
  have hk := lt_of_lt_of_eq k.isLt (t6_trips hb hab)
  have hlt : TokenSort.start g (i 0).val + k.val < 1024 := by omega
  have hrow := TokenSort.row_of g (i 0).val ⟨_, hlt⟩ (by show _ ≤ _ + _; omega) (by show _ + _ < _; omega)
  generalize hw : TokenSort.order g ⟨_, hlt⟩ = w at hrow
  have ht := w.isLt
  sl_exec
  have hr : I6_step.sl.r c i X20 g k0_hw2 k = BitVec.ofNat 32 w.val := by
    unfold I6_step.sl.r I6_step.sl.f
    rw [rd1 (off := k0_off8 _ _ k) sc20.view X20 _ ⟨_, hlt⟩ (by rw [off8_eq hb hab]; rfl) _]
    exact (h20 _).trans (by rw [hw])
  have hn : BitVec.toNat (I6_step.sl.r c i X20 g k0_hw2 k) = w.val := by
    rw [hr, BitVec.toNat_ofNat, Nat.mod_eq_of_lt (by omega)]
  have ho9 : k0_off9 (I6_step.sl.r c i X20 g k0_hw2 k) = ![w.val] := by rw [off9_eq, hn]
  have ho11 : k0_off10 (I6_step.sl.r c i X20 g k0_hw2 k) = ![2 * (w.val / 2), 0] := by rw [hr, off10_eq]
  have hc3 : k0_chk3 (I6_step.sl.r c i X20 g k0_hw2 k) := by
    refine ⟨?_, ?_⟩
    · rw [ho9]
      refine Fin.forall_fin_one.2 ?_
      show w.val + 1 ≤ 1024
      omega
    · rw [ho11]
      refine Fin.forall_fin_two.2 ⟨?_, ?_⟩
      · show 2 * (w.val / 2) + 2 ≤ 1024
        omega
      · show 0 + 4096 ≤ 4096
        omega
  sl_exec
  have hr1 : I6_step.sl.r_1 c i arg1 X1 X20 g k0_hw2 k hc3 = g w := by
    unfold I6_step.sl.r_1
    rw [rd1 (off := k0_off9 _) arg1.view X1 _ w (by rw [ho9]; rfl) _, ← hg]
    rfl
  obtain ⟨r, hr256, hgr⟩ : ∃ r : ℕ, r < 256 ∧ (g w).toInt = ((256 * (i 0).val : ℕ) : Int) + r :=
    ⟨((g w).toInt - ((256 * (i 0).val : ℕ) : Int)).toNat, by omega, by omega⟩
  have ho10 : k0_off11 i (I6_step.sl.r_1 c i arg1 X1 X20 g k0_hw2 k hc3) = ![r, 0] := by
    rw [hr1, off11_eq i _ r hr256 hgr]
  have hc4 : k0_chk4 i (I6_step.sl.r_1 c i arg1 X1 X20 g k0_hw2 k hc3) := by
    unfold k0_chk4
    rw [ho10]
    refine Fin.forall_fin_two.2 ⟨?_, ?_⟩
    · show r + 1 ≤ 256
      omega
    · show 0 + 4096 ≤ 4096
      omega
  sl_exec
  sl_step
  isplitl [H1]; · iexact H1
  isplitl [H14]; · iexact H14
  isplitl [H20]; · iexact H20
  iexists _; isplitr [H9]; swap; · iexact H9
  ipureintro
  funext j
  have hj1 : (j 1).val < 4096 := (j 1).isLt
  rw [View.read_writes_cons_unit (heq := ho10), View.writes_nil, addRows, dif_pos hlt, hw]
  unfold addRow
  have hiff : (g w).toInt = ((256 * (i 0).val + (j 0).val : ℕ) : Int) ↔ (j 0).val = r := by
    rw [hgr]; push_cast; omega
  split_ifs with hm hm' hm'
  · have hjr := hiff.1 hm'
    have hE : I6_step.sl.v253 c i X20 g k0_hw2 k = even (BitVec.ofNat 32 w.val) := by
      rw [← hr]; rfl
    have hP : sc14.view.readAt (Elt F) (Rect.unit (s := S1024x4096) (k0_off10 (I6_step.sl.r c i X20 g k0_hw2 k)) S2x4096.size (k0_off10_inb _ hc3)).toLoadRect X14
        = pairOf (sc14.view.read (Elt F) X14) w := by
      funext y
      exact rdPair (off := k0_off10 _) sc14.view X14 _ (2 * (w.val / 2)) 0 (by rw [ho11]; rfl) (by rw [ho11]; rfl) y _ rfl (Nat.zero_add _).symm
    have hV : I6_step.sl.v260 c i arg1 arg9 X1 X14 X20 arg0 f9 g k0_hw2 k hc3 hc4
        = fun y => arg9.view.read (Elt F) f9 (ixB (j 0) (y 1)) := by
      funext y
      exact rdRow (off := k0_off11 i _) arg9.view f9 _ r 0 (by rw [ho10]; rfl) (by rw [ho10]; rfl) y _ hjr (Nat.zero_add _).symm
    have hx : Rect.unitLocal (s := S256x4096) (off := ![r, 0]) (size := S1x4096.size) j hm = ixR (j 1) := by
      refine funext (Fin.forall_fin_two.2 ⟨Fin.ext ?_, Fin.ext rfl⟩)
      show (j 0).val - r = 0
      omega
    rw [← h]
    dsimp only
    rw [hE, hP, hV]
    exact congrArg (addPair (pairOf (sc14.view.read (Elt F) X14) w) (BitVec.ofNat 32 w.val) _) hx
  · have hm0 : r ≤ (j 0).val ∧ (j 0).val < r + 1 := hm 0
    exact absurd (hiff.2 (by omega)) hm'
  · have hjr := hiff.1 hm'
    refine absurd (Fin.forall_fin_two.2 ⟨?_, ?_⟩) hm
    · show r ≤ (j 0).val ∧ (j 0).val < r + 1
      omega
    · show 0 ≤ (j 1).val ∧ (j 1).val < 0 + 4096
      omega
  · rw [h]

/-- One row of 128 tokens placed. -/
theorem I4_step (g : Fin 1024 → BitVec 32) (X19 : Cts (F := F) c sc19) (hX : ∀ j, sc19.view.read (Elt F) X19 j = BitVec.ofNat 32 (TokenSort.rank g (lane j)))
    (k0_h1 : k0_cond1 i = 1#1) (k : Fin k0_t4_loop.trips) (acc : Unit) :
    I5 c g X19 (128 * k.val) ⊢ wp frame (wpE defs₀ Variants.none c none) Set.univ
      (k0_t4_body (F := F) i arg1 harg1 arg2 harg2 arg3 harg3 hb4 (Memref.isWhole_whole _) arg5 harg5 arg6 harg6 arg7 harg7 hb8 (Memref.isWhole_whole _) arg9 harg9 arg10 harg10 sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) sc20 (Memref.isWhole_whole _) sc21 (Memref.isWhole_whole _) cc0_scratch11 cc0_scoped0 cc0_scoped1 cc0_scoped2 cc0_scoped3 cc0_scoped4 cc0_scoped5 cc0_scoped6 cc0_scoped7 k0_h1 k acc) (fun _ => I5 c g X19 (128 * (k.val + 1))) := by
  unfold k0_t4_body
  iintro H
  iapply (Scf.wp_for_bind _ _ _ _ _ _ _ _ _ (fun n (_ : Unit) => I5 c g X19 (128 * k.val + n)) (I5_step c i arg1 harg1 arg2 harg2 arg3 harg3 arg5 harg5 arg6 harg6 arg7 harg7 arg9 harg9 arg10 harg10 g X19 hX k0_h1 k)) $$ [H]
  · iexact H
  iintro %acc2 H
  sl_step
  iexact H

/-- The rows of the block's tokens added to the output block, from the order and the block bounds. -/
theorem part59_run (arg0 v161 v171 v172 : BitVec 32) (X1 : Cts (F := F) c arg1) (X14 : Cts (F := F) c sc14) (X20 : Cts (F := F) c sc20)
    (X21 : Cts (F := F) c sc21) (X9 : Cts (F := F) c arg9)
    (h20 : ∀ k, toks (sc20.view.read (Elt F) X20) k = BitVec.ofNat 32 (TokenSort.order (toks (arg1.view.read (Elt F) X1)) k).val)
    (h21 : ∀ j, sc21.view.read (Elt F) X21 j = BitVec.ofNat 32 (TokenSort.start (toks (arg1.view.read (Elt F) X1)) (lane j).val)) :
    iprop(pt c arg1 X1 ∗ pt c sc14 X14 ∗ pt c sc20 X20 ∗ pt c sc21 X21 ∗ pt c arg9 X9) ⊢
      wp frame (wpE defs₀ Variants.none c none) Set.univ (k0_part59 (F := F) i arg1 harg1 arg2 harg2 arg3 harg3 hb4 (Memref.isWhole_whole _) arg5 harg5 arg6 harg6 arg7 harg7 hb8 (Memref.isWhole_whole _) arg9 harg9 arg10 harg10 sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) sc20 (Memref.isWhole_whole _) sc21 (Memref.isWhole_whole _) cc0_scratch11 cc0_scoped0 cc0_scoped1 cc0_scoped2 cc0_scoped3 cc0_scoped4 cc0_scoped5 cc0_scoped6 cc0_scoped7 arg0 v161 v171 v172)
        (fun _ => iprop(pt c arg1 X1 ∗ pt c sc14 X14 ∗ pt c sc20 X20 ∗ pt c sc21 X21 ∗ ∃ f9, ⌜arg9.view.read (Elt F) f9
    = addRows (toks (arg1.view.read (Elt F) X1)) (sc14.view.read (Elt F) X14) (i 0).val (TokenSort.start (toks (arg1.view.read (Elt F) X1)) (i 0).val)
      (arg9.view.read (Elt F) X9) (TokenSort.start (toks (arg1.view.read (Elt F) X1)) ((i 0).val + 1) - TokenSort.start (toks (arg1.view.read (Elt F) X1)) (i 0).val)⌝
      ∗ pt c arg9 f9)) := by
  have hi : (i 0).val < 125 := (i 0).isLt
  have hb : TokenSort.start (toks (arg1.view.read (Elt F) X1)) ((i 0).val + 1) ≤ 1024 := TokenSort.start_le _ _
  have hab := TokenSort.start_mono (toks (arg1.view.read (Elt F) X1)) (i 0).val
  simp only [k0_part59_eq_skeleton]; unfold k0_part59_skel
  iintro ⟨H1, H14, H20, H21, H9⟩
  sl_exec
  have e203 : part59_run.sl.r c i X21 = BitVec.ofNat 32 (TokenSort.start (toks (arg1.view.read (Elt F) X1)) (i 0).val) := by
    unfold part59_run.sl.r
    rw [rd2 sc21.view X21 _ (ix2 ⟨(i 0).val, by omega⟩) (by rw [off6_eq]; rfl) (by rw [off6_eq]; rfl) _, h21, lane_ix2]
  have e206 : part59_run.sl.r_1 c i X21 = BitVec.ofNat 32 (TokenSort.start (toks (arg1.view.read (Elt F) X1)) ((i 0).val + 1)) := by
    unfold part59_run.sl.r_1
    rw [rd2 sc21.view X21 _ (ix2 ⟨(i 0).val + 1, by omega⟩) (by rw [off7_eq]; rfl) (by rw [off7_eq]; rfl) _, h21, lane_ix2]
  have hc2 : k0_chk2 (part59_run.sl.r c i X21) (part59_run.sl.r_1 c i X21) := by
    rw [e203, e206]; exact chk2_of hb hab
  sl_exec
  iapply (Scf.wp_for_bind _ _ _ _ _ _ _ _ _ (I6 c arg1 arg9 X1 X14 X20 (i 0).val (arg9.view.read (Elt F) X9))
    (I6_step c i arg1 harg1 arg2 harg2 arg3 harg3 arg5 harg5 arg6 harg6 arg7 harg7 arg9 harg9 arg10 harg10 X1 X14 X20 h20 (arg9.view.read (Elt F) X9) _ _ arg0 v161 v171 v172 0#32 e203 e206 hc2)) $$ [H1 H14 H20 H9]
  · unfold I6
    isplitl [H1]; · iexact H1
    isplitl [H14]; · iexact H14
    isplitl [H20]; · iexact H20
    iexists _; isplitr [H9]; swap; · iexact H9
    ipureintro
    rfl
  iintro %acc HI
  have h7 : (k0_t7_loop (part59_run.sl.r c i X21) (part59_run.sl.r_1 c i X21)).trips = 0 := by rw [e203, e206]; exact t7_trips hb
  iapply (Scf.wp_for_bind _ _ _ _ _ _ _ _ _ (fun _ _ => I6 c arg1 arg9 X1 X14 X20 (i 0).val (arg9.view.read (Elt F) X9)
    (k0_t6_loop (part59_run.sl.r c i X21) (part59_run.sl.r_1 c i X21)).trips acc)
    (fun k _ => absurd (lt_of_lt_of_eq k.isLt h7) (Nat.not_lt_zero _))) $$ [HI]
  · iexact HI
  iintro %acc' HI
  unfold I6
  icases HI with ⟨H1, H14, H20, %f9, %h9, H9⟩
  sl_step
  isplitl [H1]; · iexact H1
  isplitl [H14]; · iexact H14
  isplitl [H20]; · iexact H20
  isplitl [H21]; · iexact H21
  iexists f9; isplitr [H9]; swap; · iexact H9
  ipureintro
  rw [h9]
  congr 1
  rw [e203, e206]
  exact t6_trips hb hab

end Cert.Kernel.Hand
end
-- ==== Proof.KernelInit.lean ====
/-
  What the first grid point sets up: the dequantized activations, the token order and the block starts.
-/
module

public import proofs.«01_k».proof.Proof.KernelLoops
public import Idealize.ShloMosaic.Lib.VecWindow
public import Idealize.ShloMosaic.Lib.Ring
public import Idealize.ShloMosaic.Lib.Pipeline.Value

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

/-- The scale of row `r` of the activations. -/
def ixS (r : ℕ) (h : r < 1024) : S2x512.Idx := fun a => match a with | ⟨0, _⟩ => ⟨r / 512, by show r / 512 < 2; omega⟩ | ⟨1, _⟩ => ⟨r % 512, by show r % 512 < 512; omega⟩

/-- The dequantized activations: each code times its row's scale. -/
def HH (H : Vec F S1024x4096 .fp8e4m3) (S : Vec F S2x512 .f32) : Vec F S1024x4096 .bf16 := fun j =>
  FloatOps.mulf (FloatOps.extf .bf16 bitsLt_fp8e4m3_bf16 (H j)) (FloatOps.truncf .bf16 bitsLt_bf16_f32 (S (ixS (j 0).val (j 0).isLt)))

/-- A tile of codes times a column of scales, given as a row. -/
def tileOf (M : FVec F S128x128 .fp8e4m3) (s : FVec F S1x128 .f32) : FVec F S128x128 .bf16 :=
  shapeCast S128x128 (mulf (extf .bf16 M bitsLt_fp8e4m3_bf16)
    (truncf .bf16 (transpose S128x128 [1, 0] (broadcastTo S128x128 (shapeCast S1x128 s shapeCasts_S1x128_S1x128) broadcasts_S1x128_S128x128)
      transposes_S128x128_p1_0_S128x128) bitsLt_bf16_f32)) shapeCasts_S128x128_S128x128

theorem tileOf_apply (M : FVec F S128x128 .fp8e4m3) (s : FVec F S1x128 .f32) (x : S128x128.Idx) (y : S1x128.Idx) (hy : (y 1).val = (x 0).val) :
    tileOf M s x = FloatOps.mulf (FloatOps.extf .bf16 bitsLt_fp8e4m3_bf16 (M x)) (FloatOps.truncf .bf16 bitsLt_bf16_f32 (s y)) := by
  unfold tileOf
  rw [shapeCast_id, shapeCast_id]
  refine congrArg (fun z => FloatOps.mulf (FloatOps.extf .bf16 bitsLt_fp8e4m3_bf16 (M x)) (FloatOps.truncf .bf16 bitsLt_bf16_f32 z)) ?_
  rw [transpose_apply [1, 0] _ _ x (fun a => match a with | ⟨0, _⟩ => x 1 | ⟨1, _⟩ => x 0) (Fin.forall_fin_two.2 ⟨rfl, rfl⟩)]
  refine broadcastTo_apply _ _ _ y (Fin.forall_fin_two.2 ⟨?_, ?_⟩)
  · have : (y 0).val < 1 := (y 0).isLt
    show (y 0).val = 0
    omega
  · exact hy

variable (c : Dev nD) (i : grid0.Coords) (arg1 : Memref sig .tc .smem S1024 .i32) (harg1 : arg1.IsWhole) (arg2 : Memref sig .tc .vmem S1024x256 .fp8e5m2) (harg2 : arg2.IsWhole) (arg3 : Memref sig .tc .vmem S2x4x256 .f32) (harg3 : arg3.IsWhole) (arg5 : Memref sig .tc .vmem S2x512 .f32) (harg5 : arg5.IsWhole) (arg6 : Memref sig .tc .vmem S256x4096 .i8) (harg6 : arg6.IsWhole) (arg7 : Memref sig .tc .vmem S1x1x256 .f32) (harg7 : arg7.IsWhole) (arg9 : Memref sig .tc .vmem S256x4096 .f32) (harg9 : arg9.IsWhole) (arg10 : Memref sig .tc .vmem S1024x4096 .bf16) (harg10 : arg10.IsWhole)

/-- A DMA semaphore at zero. -/
abbrev sem0 (c : Dev nD) (s : SemLoc sig) : sProp 𝕄 := semVal ((c : Thread nD τ), s) 0

/-- One 128 by 128 tile of the dequantized activations, as the body computes it from the row block it copied in. -/
theorem tile_agree (X5 : Cts (F := F) c arg5) (X4 : Cts (F := F) c hb4) (r q a cc : ℕ) (hr : r = 512 * q + a) (L : List (View.Piece (Elt F) S128x4096 .fp8e4m3))
    (i1 : ∀ k, ![r, 0] k + S128x4096.size k ≤ S1024x4096.size k) (hs) (i2 : ∀ k, ![0, cc] k + S128x128.size k ≤ S128x4096.size k)
    (i3 : ∀ k, ![q, a] k + S1x128.size k ≤ S2x512.size k) (i4 : ∀ k, ![r, cc] k + S128x128.size k ≤ S1024x4096.size k)
    (x : S128x128.Idx) :
    tileOf (sc11.view.readCov (Val := Elt F) (⟨Rect.whole S128x4096, ReadAs.same.apply (View.read (Elt F)
        (hb4.slice (Rect.unit (s := S1024x4096) ![r, 0] S128x4096.size i1) hs).view X4)⟩ :: L)
        (Rect.unit (s := S128x4096) ![0, cc] S128x128.size i2).toLoadRect)
      (arg5.view.readAt (Elt F) (Rect.unit (s := S2x512) ![q, a] S1x128.size i3).toLoadRect X5) x
    = HH (hb4.view.read (Elt F) X4) (arg5.view.read (Elt F) X5) ((Rect.unit (s := S1024x4096) ![r, cc] S128x128.size i4).emb x) := by
  have x0 : (x 0).val < 128 := (x 0).isLt
  have ha : a + 128 ≤ 512 := i3 1
  rw [tileOf_apply _ _ x (fun a => match a with | ⟨0, _⟩ => ⟨0, Nat.one_pos⟩ | ⟨1, _⟩ => x 0) rfl]
  have eM : (sc11.view.readCov (Val := Elt F) (⟨Rect.whole S128x4096, ReadAs.same.apply (View.read (Elt F)
        (hb4.slice (Rect.unit (s := S1024x4096) ![r, 0] S128x4096.size i1) hs).view X4)⟩ :: L)
        (Rect.unit (s := S128x4096) ![0, cc] S128x128.size i2).toLoadRect) x
      = hb4.view.read (Elt F) X4 ((Rect.unit (s := S1024x4096) ![r, cc] S128x128.size i4).emb x) := by
    unfold View.readCov
    rw [View.readAt_apply, View.read_writes_cons_hit (x := fun a => match a with | ⟨0, _⟩ => x 0 | ⟨1, _⟩ => ⟨cc + (x 1).val, by
        have := i2 1; have h1 : (x 1).val < 128 := (x 1).isLt; have : cc + 128 ≤ 4096 := this; show cc + (x 1).val < 4096; omega⟩)]
    · refine congrArg (hb4.view.read (Elt F) X4) (funext (Fin.forall_fin_two.2 ⟨Fin.ext ?_, Fin.ext ?_⟩))
      · show r + 1 * (x 0).val = r + 1 * (x 0).val
        rfl
      · show 0 + 1 * (cc + (x 1).val) = cc + 1 * (x 1).val
        omega
    · refine funext (Fin.forall_fin_two.2 ⟨Fin.ext ?_, Fin.ext ?_⟩)
      · show 0 + 1 * (x 0).val = 0 + 1 * (x 0).val
        rfl
      · show 0 + 1 * (cc + (x 1).val) = cc + 1 * (x 1).val
        omega
  rw [eM]
  refine congrArg (fun z => FloatOps.mulf _ (FloatOps.truncf .bf16 bitsLt_bf16_f32 z)) ?_
  rw [View.readAt_apply]
  refine congrArg (arg5.view.read (Elt F) X5) (funext (Fin.forall_fin_two.2 ⟨Fin.ext ?_, Fin.ext ?_⟩))
  · show q + 1 * 0 = (r + 1 * (x 0).val) / 512
    omega
  · show a + 1 * (x 0).val = (r + 1 * (x 0).val) % 512
    omega

/-- One more tile, in row order, covers one more tile of the array. -/
theorem tiles_cons {L : List (View.Piece (Elt F) S1024x4096 .bf16)} {w : FVec F S128x128 .bf16} {n a b : ℕ} {inb : ∀ k, ![a, b] k + S128x128.size k ≤ S1024x4096.size k}
    (ha : a = 128 * (n / 32)) (hb : b = 128 * (n % 32))
    (hL : ∀ y : S1024x4096.Idx, (y 0).val / 128 * 32 + (y 1).val / 128 < n → ∃ p ∈ L, y ∈ p.1.set) :
    ∀ y : S1024x4096.Idx, (y 0).val / 128 * 32 + (y 1).val / 128 < n + 1 →
      ∃ p ∈ ((⟨Rect.unit (s := S1024x4096) ![a, b] S128x128.size inb, w⟩ : View.Piece (Elt F) S1024x4096 .bf16) :: L), y ∈ p.1.set := by
  intro y hy
  have h1 : (y 1).val < 4096 := (y 1).isLt
  by_cases h : (y 0).val / 128 * 32 + (y 1).val / 128 < n
  · obtain ⟨p, hp, hm⟩ := hL y h
    exact ⟨p, List.mem_cons_of_mem _ hp, hm⟩
  · refine ⟨_, List.mem_cons_self, ?_⟩
    refine (Rect.mem_set_unit (s := S1024x4096) (off := ![a, b]) (size := S128x128.size) (inb := inb) (i := y)).2 (Fin.forall_fin_two.2 ⟨?_, ?_⟩)
    · show a ≤ (y 0).val ∧ (y 0).val < a + 128
      omega
    · show b ≤ (y 1).val ∧ (y 1).val < b + 128
      omega

/-- What the first grid point has set up once its last tile, `r`, is stored: the dequantized activations, the copied gradient of the
    embeddings, the token order and the block starts. -/
structure InitDone (X1 : Cts (F := F) c arg1) (X5 : Cts (F := F) c arg5) (X4 : Cts (F := F) c hb4) (X8 : Cts (F := F) c hb8) (r : FVec F S128x128 .bf16)
    (g12 : Cts (F := F) c sc12) (g14 : Cts (F := F) c sc14) (g20 : Cts (F := F) c sc20) (g21 : Cts (F := F) c sc21) : Prop where
  tiles : ∀ y : S1024x4096.Idx, (y 0).val < 896 ∨ (y 1).val < 3968 → sc12.view.read (Elt F) g12 y = HH (hb4.view.read (Elt F) X4) (arg5.view.read (Elt F) X5) y
  last : ∀ x, r x = HH (hb4.view.read (Elt F) X4) (arg5.view.read (Elt F) X5) ((Rect.unit (s := S1024x4096) ![896, 3968] S128x128.size inb_S1024x4096_S128x128_896_3968).emb x)
  demb : sc14.view.read (Elt F) g14 = hb8.view.read (Elt F) X8
  order : ∀ k, toks (sc20.view.read (Elt F) g20) k = BitVec.ofNat 32 (TokenSort.order (toks (arg1.view.read (Elt F) X1)) k).val
  starts : ∀ j, sc21.view.read (Elt F) g21 j = BitVec.ofNat 32 (TokenSort.start (toks (arg1.view.read (Elt F) X1)) (lane j).val)

theorem part51_run (k0_h1 : k0_cond1 i = 1#1) (X1 : Cts (F := F) c arg1) (X5 : Cts (F := F) c arg5) (X4 : Cts (F := F) c hb4) (X8 : Cts (F := F) c hb8)
    (f11 : Cts (F := F) c sc11) (f12 : Cts (F := F) c sc12) (f14 : Cts (F := F) c sc14) (f17 : Cts (F := F) c sc17)
    (f18 : Cts (F := F) c sc18) (f19 : Cts (F := F) c sc19) (f20 : Cts (F := F) c sc20) (f21 : Cts (F := F) c sc21) (W : _) :
    iprop(pt c arg1 X1 ∗ pt c arg5 X5 ∗ pt c hb4 X4 ∗ pt c hb8 X8 ∗ pt c sc11 f11 ∗ pt c sc12 f12 ∗ pt c sc14 f14 ∗ pt c sc17 f17 ∗ pt c sc18 f18
      ∗ pt c sc19 f19 ∗ pt c sc20 f20 ∗ pt c sc21 f21 ∗ sem0 c (.dma 13) ∗ sem0 c (.dma 14) ∗ sem0 c (.dma 15) ∗ sem0 c (.dma 16) ∗ sem0 c (.dma 17) ∗ sem0 c (.dma 18) ∗ sem0 c (.dma 19) ∗ sem0 c (.dma 20)
      ∗ sem0 c (.dma 21) ∗ sem0 c (.dma 22) ∗ sem0 c (.dma 23) ∗ sem0 c (.dma 24) ∗ owes (c : Thread nD τ) 0 W) ⊢
      wp frame (wpE defs₀ Variants.none c none) Set.univ (k0_part51 (F := F) i arg1 harg1 arg2 harg2 arg3 harg3 hb4 (Memref.isWhole_whole _) arg5 harg5 arg6 harg6 arg7 harg7 hb8 (Memref.isWhole_whole _) arg9 harg9 arg10 harg10 sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) sc20 (Memref.isWhole_whole _) sc21 (Memref.isWhole_whole _) cc0_scratch11 cc0_scoped0 cc0_scoped1 cc0_scoped2 cc0_scoped3 cc0_scoped4 cc0_scoped5 cc0_scoped6 cc0_scoped7 k0_h1)
        (fun r => iprop(∃ g11 g12 g14 g17 g18 g19 g20 g21 W', ⌜InitDone c arg1 arg5 X1 X5 X4 X8 r g12 g14 g20 g21⌝
          ∗ pt c arg1 X1 ∗ pt c arg5 X5 ∗ pt c hb4 X4 ∗ pt c hb8 X8 ∗ pt c sc11 g11 ∗ pt c sc12 g12 ∗ pt c sc14 g14 ∗ pt c sc17 g17 ∗ pt c sc18 g18
          ∗ pt c sc19 g19 ∗ pt c sc20 g20 ∗ pt c sc21 g21 ∗ sem0 c (.dma 13) ∗ sem0 c (.dma 14) ∗ sem0 c (.dma 15) ∗ sem0 c (.dma 16) ∗ sem0 c (.dma 17) ∗ sem0 c (.dma 18) ∗ sem0 c (.dma 19) ∗ sem0 c (.dma 20) ∗ sem0 c (.dma 21) ∗ sem0 c (.dma 22) ∗ sem0 c (.dma 23) ∗ sem0 c (.dma 24) ∗ owes (c : Thread nD τ) 0 W')) := by
  simp only [k0_part51_eq_skeleton]; unfold k0_part51_skel
  iintro ⟨H1, H5, H4, H8, H11, H12, H14, H17, H18, H19, H20, H21, S13, S14, S15, S16, S17, S18, S19, S20, S21, S22, S23, S24, HW⟩
  sl_exec
  iapply (Scf.wp_for_bind _ _ _ _ _ _ _ _ _ (I1 c arg1 X1) (I1_step c i arg1 harg1 arg2 harg2 arg3 harg3 arg5 harg5 arg6 harg6 arg7 harg7 arg9 harg9 arg10 harg10 X1 k0_h1)) $$ [H1 H17]
  · unfold I1
    isplitl [H1]; · iexact H1
    iexists f17; isplitr [H17]; swap; · iexact H17
    ipureintro
    exact fun j h => absurd h (Nat.not_lt_zero _)
  iintro %acc1 HI
  unfold I1
  icases HI with ⟨H1, %g17, %h17, H17⟩
  sl_exec
  have hv : ∀ j, sc17.view.readAt (Elt F) (Rect.unit (s := S8x128) ![0, 0] S8x128.size inb_S8x128_S8x128_0_0).toLoadRect g17 j = toks (arg1.view.read (Elt F) X1) (lane j) := by
    intro j
    exact (congrFun (View.readAt_full sc17.view g17 (off := ![0, 0]) inb_S8x128_S8x128_0_0) j).trans (h17 j (j 0).isLt)
  iapply (Scf.wp_for_bind _ _ _ _ _ _ _ _ _ (I3 c arg1 X1) (I3_step c i arg1 harg1 arg2 harg2 arg3 harg3 arg5 harg5 arg6 harg6 arg7 harg7 arg9 harg9 arg10 harg10 X1 k0_h1 _ hv (k0_pay6, k0_pay7))) $$ [H1]
  · unfold I3
    isplitl [H1]; · iexact H1
    ipureintro
    intro j
    exact ⟨rfl, rfl⟩
  iintro %acc3 HI
  obtain ⟨acc31, acc32⟩ := acc3
  unfold I3
  icases HI with ⟨H1, %h3⟩
  sl_exec
  have h19 : ∀ j, sc19.view.read (Elt F) (sc19.view.writes (Elt F) sc19.view.junk [⟨Rect.whole S8x128, part51_run.sl.dma4 (F := F) g17 acc31⟩]) j
      = BitVec.ofNat 32 (TokenSort.rank (toks (arg1.view.read (Elt F) X1)) (lane j)) := by
    intro j
    unfold part51_run.sl.dma4 part51_run.sl.H17_1 part51_run.sl.v239
    rw [View.read_writes_whole]
    refine (congrFun (View.read_writes_full sc17.view g17 (off := ![0, 0]) inb_S8x128_S8x128_0_0 _ []) j).trans ?_
    rw [shapeCast_id]
    refine (h3 j).1.trans (congrArg (BitVec.ofNat 32) ?_)
    exact TokenSort.upto_before _ _
  have h21 : ∀ j, sc21.view.read (Elt F) (sc21.view.writes (Elt F) sc21.view.junk [⟨Rect.whole S8x128, part51_run.sl.dma4_1 c f18 acc32⟩]) j
      = BitVec.ofNat 32 (TokenSort.start (toks (arg1.view.read (Elt F) X1)) (lane j).val) := by
    intro j
    unfold part51_run.sl.dma4_1 part51_run.sl.H18_1 part51_run.sl.v242
    rw [View.read_writes_whole]
    refine (congrFun (View.read_writes_full sc18.view f18 (off := ![0, 0]) inb_S8x128_S8x128_0_0 _ []) j).trans ?_
    rw [shapeCast_id]
    refine (h3 j).2.trans (congrArg (BitVec.ofNat 32) ?_)
    exact TokenSort.upto_start _ _
  iapply (Scf.wp_for_bind _ _ _ _ _ _ _ _ _ (fun n (_ : Unit) => I5 c (toks (arg1.view.read (Elt F) X1)) _ (128 * n)) (I4_step c i arg1 harg1 arg2 harg2 arg3 harg3 arg5 harg5 arg6 harg6 arg7 harg7 arg9 harg9 arg10 harg10 _ _ h19 k0_h1)) $$ [H19 H20]
  · unfold I5
    isplitl [H19]; · iexact H19
    iexists _; isplitr [H20]; swap; · iexact H20
    ipureintro
    exact fun u h => absurd h (Nat.not_lt_zero _)
  iintro %acc4 HI
  unfold I5
  icases HI with ⟨H19, %g20, %h20, H20⟩
  sl_exec
  sl_step
  iexists _; iexists _; iexists _; iexists _; iexists _; iexists _; iexists _; iexists _; iexists _
  isplitr [H1 H5 H4 H8 H11 H12 H14 H17 H18 H19 H20 H21 S13 S14 S15 S16 S17 S18 S19 S20 S21 S22 S23 S24 HW]
  swap
  · isplitl [H1]; · iexact H1
    isplitl [H5]; · iexact H5
    isplitl [H4]; · iexact H4
    isplitl [H8]; · iexact H8
    isplitl [H11]; · iexact H11
    isplitl [H12]; · iexact H12
    isplitl [H14]; · iexact H14
    isplitl [H17]; · iexact H17
    isplitl [H18]; · iexact H18
    isplitl [H19]; · iexact H19
    isplitl [H20]; · iexact H20
    isplitl [H21]; · iexact H21
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S23]; · iexact S23
    isplitl [S24]; · iexact S24
    iexact HW
  ipureintro
  refine ⟨?_, ?_, ?_, ?_, h21⟩
  · intro y hy
    refine View.read_writes_apply_of_pieces _ _ _ _ ?_ y ?_
    · iterate 255 refine List.forall_mem_cons.2 ⟨fun x => tile_agree c arg5 X5 X4 _ _ _ _ (by rfl) _ _ _ _ _ (by decide) x, ?_⟩
      exact fun _ h => absurd h List.not_mem_nil
    · have h0 : (y 0).val < 1024 := (y 0).isLt
      have h1 : (y 1).val < 4096 := (y 1).isLt
      have hn : (y 0).val / 128 * 32 + (y 1).val / 128 < 255 := by omega
      clear hy h0 h1
      revert y
      iterate 255 refine tiles_cons (F := F) (by rfl) (by rfl) ?_
      exact fun _ h => absurd h (Nat.not_lt_zero _)
  · intro x
    have e : k0_pay305 (k0_pay300 (part51_run.sl.r_33 c arg5 X5) (part51_run.sl.v1824 c X4)) x
        = HH (hb4.view.read (Elt F) X4) (arg5.view.read (Elt F) X5) ((Rect.unit (s := S1024x4096) ![896, 3968] S128x128.size inb_S1024x4096_S128x128_896_3968).emb x) :=
      tile_agree c arg5 X5 X4 _ _ _ _ (by rfl) _ _ _ _ _ (by decide) x
    exact (congrFun (shapeCast_id _ shapeCasts_S128x128_S128x128) x).symm.trans e
  · exact View.read_writes_whole _ _ _
  · intro k
    have h := h20 (TokenSort.order (toks (arg1.view.read (Elt F) X1)) k) (TokenSort.order (toks (arg1.view.read (Elt F) X1)) k).isLt
    rw [← h]
    exact congrArg _ (Fin.ext (TokenSort.rank_order _ k).symm)

end Cert.Kernel.Hand
end
-- ==== Proof.KernelBody.lean ====
/-
  The body at a grid point.
-/
module

public import proofs.«01_k».proof.Proof.KernelInit
public import Idealize.ShloMosaic.Lib.VecWindow
public import Idealize.ShloMosaic.Lib.Ring
public import Idealize.ShloMosaic.Lib.Pipeline.Value

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

/-- The scale of an element of the block of logit gradients. -/
def ixL (r v : ℕ) (h : r < 1024) (hv : v < 256) : S2x4x256.Idx := fun a => match a with
  | ⟨0, _⟩ => ⟨r / 512, by show r / 512 < 2; omega⟩ | ⟨1, _⟩ => ⟨r % 512 / 128, by show r % 512 / 128 < 4; omega⟩ | ⟨2, _⟩ => ⟨v, hv⟩

/-- The dequantized block of logit gradients. -/
def DL (C : Vec F S1024x256 .fp8e5m2) (S : Vec F S2x4x256 .f32) : Vec F S1024x256 .bf16 := fun j =>
  FloatOps.mulf (FloatOps.extf .bf16 bitsLt_fp8e5m2_bf16 (C j)) (FloatOps.truncf .bf16 bitsLt_bf16_f32 (S (ixL (j 0).val (j 1).val (j 0).isLt (j 1).isLt)))

/-- The same block with its axes exchanged. -/
def DLT (C : Vec F S1024x256 .fp8e5m2) (S : Vec F S2x4x256 .f32) : Vec F S256x1024 .bf16 := fun j =>
  DL C S (fun a => match a with | ⟨0, _⟩ => j 1 | ⟨1, _⟩ => j 0)

/-- A block of 128 rows of codes times the block's row of scales. -/
def dlOf (M : FVec F S128x256 .fp8e5m2) (s : FVec F S1x1x256 .f32) : FVec F S128x256 .bf16 :=
  mulf (extf .bf16 (shapeCast S128x256 M shapeCasts_S128x256_S128x256) bitsLt_fp8e5m2_bf16)
    (broadcastTo S128x256 (truncf .bf16 (shapeCast S1x256 s shapeCasts_S1x1x256_S1x256) bitsLt_bf16_f32) broadcasts_S1x256_S128x256)

theorem dlOf_apply (M : FVec F S128x256 .fp8e5m2) (s : FVec F S1x1x256 .f32) (x : S128x256.Idx) (y : S1x1x256.Idx) (hy : (y 2).val = (x 1).val) :
    dlOf M s x = FloatOps.mulf (FloatOps.extf .bf16 bitsLt_fp8e5m2_bf16 (M x)) (FloatOps.truncf .bf16 bitsLt_bf16_f32 (s y)) := by
  have y0 : (y 0).val < 1 := (y 0).isLt
  have y1 : (y 1).val < 1 := (y 1).isLt
  have x1 : (x 1).val < 256 := (x 1).isLt
  unfold dlOf
  rw [shapeCast_id]
  refine congrArg (fun z => FloatOps.mulf (FloatOps.extf .bf16 bitsLt_fp8e5m2_bf16 (M x)) z) ?_
  refine (broadcastTo_apply (s := S1x256) _ broadcasts_S1x256_S128x256 x (fun a => match a with | ⟨0, _⟩ => ⟨0, Nat.one_pos⟩ | ⟨1, _⟩ => x 1) (Fin.forall_fin_two.2 ⟨rfl, rfl⟩)).trans ?_
  refine congrArg (fun z => FloatOps.truncf .bf16 bitsLt_bf16_f32 z) ?_
  refine shapeCast_apply s shapeCasts_S1x1x256_S1x256 _ y ?_
  refine (Shape.rowMajor_val_three (d := ![1, 1, 256]) y).trans (Eq.trans ?_ (Shape.rowMajor_val_two (d := ![1, 256]) _).symm)
  show ((y 0).val * 1 + (y 1).val) * 256 + (y 2).val = 0 * 256 + (x 1).val
  omega

variable (c : Dev nD) (i : grid0.Coords) (arg1 : Memref sig .tc .smem S1024 .i32) (harg1 : arg1.IsWhole) (arg2 : Memref sig .tc .vmem S1024x256 .fp8e5m2) (harg2 : arg2.IsWhole) (arg3 : Memref sig .tc .vmem S2x4x256 .f32) (harg3 : arg3.IsWhole) (arg5 : Memref sig .tc .vmem S2x512 .f32) (harg5 : arg5.IsWhole) (arg6 : Memref sig .tc .vmem S256x4096 .i8) (harg6 : arg6.IsWhole) (arg7 : Memref sig .tc .vmem S1x1x256 .f32) (harg7 : arg7.IsWhole) (arg9 : Memref sig .tc .vmem S256x4096 .f32) (harg9 : arg9.IsWhole) (arg10 : Memref sig .tc .vmem S1024x4096 .bf16) (harg10 : arg10.IsWhole)

/-- One block of 128 rows of the dequantized logit gradients. -/
theorem dl_agree (X2 : Cts (F := F) c arg2) (X3 : Cts (F := F) c arg3) (r q a : ℕ) (hr : r = 512 * q + 128 * a)
    (i1 : ∀ k, ![r, 0] k + S128x256.size k ≤ S1024x256.size k) (i2 : ∀ k, ![q, a, 0] k + S1x1x256.size k ≤ S2x4x256.size k) (ha : a < 4)
    (x : S128x256.Idx) :
    shapeCast S128x256 (dlOf (arg2.view.readAt (Elt F) (Rect.unit (s := S1024x256) ![r, 0] S128x256.size i1).toLoadRect X2)
      (arg3.view.readAt (Elt F) (Rect.unit (s := S2x4x256) ![q, a, 0] S1x1x256.size i2).toLoadRect X3)) shapeCasts_S128x256_S128x256 x
    = DL (arg2.view.read (Elt F) X2) (arg3.view.read (Elt F) X3) ((Rect.unit (s := S1024x256) ![r, 0] S128x256.size i1).emb x) := by
  have x0 : (x 0).val < 128 := (x 0).isLt
  rw [shapeCast_id, dlOf_apply _ _ x (fun k => match k with | ⟨0, _⟩ => ⟨0, Nat.one_pos⟩ | ⟨1, _⟩ => ⟨0, Nat.one_pos⟩ | ⟨2, _⟩ => x 1) rfl]
  unfold DL
  refine congrArg₂ (fun u w => FloatOps.mulf (FloatOps.extf .bf16 bitsLt_fp8e5m2_bf16 u) (FloatOps.truncf .bf16 bitsLt_bf16_f32 w)) rfl ?_
  refine congrArg (arg3.view.read (Elt F) X3) (funext fun k => Fin.ext ?_)
  match k with
  | ⟨0, _⟩ => show q + 1 * 0 = (r + 1 * (x 0).val) / 512; omega
  | ⟨1, _⟩ => show a + 1 * 0 = (r + 1 * (x 0).val) % 512 / 128; omega
  | ⟨2, _⟩ => rfl

/-- The same block with its axes exchanged. -/
theorem dlt_agree (X2 : Cts (F := F) c arg2) (X3 : Cts (F := F) c arg3) (r q a : ℕ) (hr : r = 512 * q + 128 * a)
    (i1 : ∀ k, ![r, 0] k + S128x256.size k ≤ S1024x256.size k) (i2 : ∀ k, ![q, a, 0] k + S1x1x256.size k ≤ S2x4x256.size k) (ha : a < 4)
    (i3 : ∀ k, ![0, r] k + S256x128.size k ≤ S256x1024.size k) (x : S256x128.Idx) :
    shapeCast S256x128 (transpose S256x128 [1, 0] (dlOf (arg2.view.readAt (Elt F) (Rect.unit (s := S1024x256) ![r, 0] S128x256.size i1).toLoadRect X2)
      (arg3.view.readAt (Elt F) (Rect.unit (s := S2x4x256) ![q, a, 0] S1x1x256.size i2).toLoadRect X3)) transposes_S128x256_p1_0_S256x128) shapeCasts_S256x128_S256x128 x
    = DLT (arg2.view.read (Elt F) X2) (arg3.view.read (Elt F) X3) ((Rect.unit (s := S256x1024) ![0, r] S256x128.size i3).emb x) := by
  rw [shapeCast_id, transpose_apply [1, 0] _ _ x (fun k => match k with | ⟨0, _⟩ => x 1 | ⟨1, _⟩ => x 0) (Fin.forall_fin_two.2 ⟨rfl, rfl⟩)]
  have h := dl_agree c arg2 arg3 X2 X3 r q a hr i1 i2 ha (fun k => match k with | ⟨0, _⟩ => x 1 | ⟨1, _⟩ => x 0)
  rw [shapeCast_id] at h
  refine h.trans ?_
  unfold DLT
  refine congrArg (DL (arg2.view.read (Elt F) X2) (arg3.view.read (Elt F) X3)) (funext fun k => ?_)
  match k with
  | ⟨0, _⟩ => rfl
  | ⟨1, _⟩ => rfl

/-- What the kernel keeps between grid points: the dequantized activations, the gradient of the embeddings, the token order and the
    block starts. -/
structure Kept (X1 : Cts (F := F) c arg1) (X5 : Cts (F := F) c arg5) (X4 : Cts (F := F) c hb4) (X8 : Cts (F := F) c hb8)
    (g12 : Cts (F := F) c sc12) (g14 : Cts (F := F) c sc14) (g20 : Cts (F := F) c sc20) (g21 : Cts (F := F) c sc21) : Prop where
  hh : sc12.view.read (Elt F) g12 = HH (hb4.view.read (Elt F) X4) (arg5.view.read (Elt F) X5)
  demb : sc14.view.read (Elt F) g14 = hb8.view.read (Elt F) X8
  order : ∀ k, toks (sc20.view.read (Elt F) g20) k = BitVec.ofNat 32 (TokenSort.order (toks (arg1.view.read (Elt F) X1)) k).val
  starts : ∀ j, sc21.view.read (Elt F) g21 j = BitVec.ofNat 32 (TokenSort.start (toks (arg1.view.read (Elt F) X1)) (lane j).val)

/-- A program runs to the post of its first part, then on from there. -/
theorem wp_seq {β γ : Type} (p : Prog (TpuEff nD τ sig (Elt F) Λ₀ .tc) β) (k : β → Prog (TpuEff nD τ sig (Elt F) Λ₀ .tc) γ) (P : β → sProp 𝕄) (Q : γ → sProp 𝕄) :
    wp frame (wpE defs₀ Variants.none c none) Set.univ p P ⊢ iprop((∀ a, P a -∗ wp frame (wpE defs₀ Variants.none c none) Set.univ (k a) Q)
      -∗ wp frame (wpE defs₀ Variants.none c none) Set.univ (p >>= k) Q) := by
  rw [wp_bind]
  exact wp_wand _ _ _

theorem body_run (A : FVec F S1024x4096 .f32) (X1 : Cts (F := F) c arg1) (X2 : Cts (F := F) c arg2) (X3 : Cts (F := F) c arg3) (X5 : Cts (F := F) c arg5) (X6 : Cts (F := F) c arg6) (X7 : Cts (F := F) c arg7)
    (X4 : Cts (F := F) c hb4) (X8 : Cts (F := F) c hb8) (f9 : Cts (F := F) c arg9) (f10 : Cts (F := F) c arg10)
    (f11 : Cts (F := F) c sc11) (f12 : Cts (F := F) c sc12) (f13 : Cts (F := F) c sc13) (f14 : Cts (F := F) c sc14) (f15 : Cts (F := F) c sc15) (f16 : Cts (F := F) c sc16) (f17 : Cts (F := F) c sc17)
    (f18 : Cts (F := F) c sc18) (f19 : Cts (F := F) c sc19) (f20 : Cts (F := F) c sc20) (f21 : Cts (F := F) c sc21) (W : _)
    (hA : k0_cond1 i = 1#1 → A = k0_pay306)
    (hK : ¬ k0_cond1 i = 1#1 → Kept c arg1 arg5 X1 X5 X4 X8 f12 f14 f20 f21 ∧ sc13.view.read (Elt F) f13 = A) :
    iprop(pt c arg1 X1 ∗ pt c arg2 X2 ∗ pt c arg3 X3 ∗ pt c arg5 X5 ∗ pt c arg6 X6 ∗ pt c arg7 X7 ∗ pt c hb4 X4 ∗ pt c hb8 X8 ∗ pt c arg9 f9 ∗ pt c arg10 f10
      ∗ pt c sc11 f11 ∗ pt c sc12 f12 ∗ pt c sc13 f13 ∗ pt c sc14 f14 ∗ pt c sc15 f15 ∗ pt c sc16 f16 ∗ pt c sc17 f17 ∗ pt c sc18 f18 ∗ pt c sc19 f19 ∗ pt c sc20 f20 ∗ pt c sc21 f21
      ∗ sem0 c (.dma 13) ∗ sem0 c (.dma 14) ∗ sem0 c (.dma 15) ∗ sem0 c (.dma 16) ∗ sem0 c (.dma 17) ∗ sem0 c (.dma 18) ∗ sem0 c (.dma 19) ∗ sem0 c (.dma 20) ∗ sem0 c (.dma 21) ∗ sem0 c (.dma 22) ∗ sem0 c (.dma 23) ∗ sem0 c (.dma 24) ∗ owes (c : Thread nD τ) 0 W) ⊢
      wp frame (wpE defs₀ Variants.none c none) Set.univ (cc0__kernel (F := F) i arg1 harg1 arg2 harg2 arg3 harg3 hb4 (Memref.isWhole_whole _) arg5 harg5 arg6 harg6 arg7 harg7 hb8 (Memref.isWhole_whole _) arg9 harg9 arg10 harg10 sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) sc20 (Memref.isWhole_whole _) sc21 (Memref.isWhole_whole _) cc0_scratch11 cc0_scoped0 cc0_scoped1 cc0_scoped2 cc0_scoped3 cc0_scoped4 cc0_scoped5 cc0_scoped6 cc0_scoped7)
        (fun _ => iprop(∃ g9 g10 g11 g12 g13 g14 g15 g16 g17 g18 g19 g20 g21 W', ⌜Kept c arg1 arg5 X1 X5 X4 X8 g12 g14 g20 g21
            ∧ sc13.view.read (Elt F) g13 = k0_pay332 (arg7.view.read (Elt F) X7) (arg6.view.read (Elt F) X6) A (DL (arg2.view.read (Elt F) X2) (arg3.view.read (Elt F) X3))
            ∧ arg9.view.read (Elt F) g9 = addRows (toks (arg1.view.read (Elt F) X1)) (hb8.view.read (Elt F) X8) (i 0).val (TokenSort.start (toks (arg1.view.read (Elt F) X1)) (i 0).val)
                (k0_pay334 (DLT (arg2.view.read (Elt F) X2) (arg3.view.read (Elt F) X3)) (HH (hb4.view.read (Elt F) X4) (arg5.view.read (Elt F) X5)))
                (TokenSort.start (toks (arg1.view.read (Elt F) X1)) ((i 0).val + 1) - TokenSort.start (toks (arg1.view.read (Elt F) X1)) (i 0).val)
            ∧ (k0_cond2 i = 1#1 → arg10.view.read (Elt F) g10 = k0_pay1 (sc13.view.read (Elt F) g13))
            ∧ (¬ k0_cond2 i = 1#1 → g10 = f10)⌝
          ∗ pt c arg1 X1 ∗ pt c arg2 X2 ∗ pt c arg3 X3 ∗ pt c arg5 X5 ∗ pt c arg6 X6 ∗ pt c arg7 X7 ∗ pt c hb4 X4 ∗ pt c hb8 X8 ∗ pt c arg9 g9 ∗ pt c arg10 g10
          ∗ pt c sc11 g11 ∗ pt c sc12 g12 ∗ pt c sc13 g13 ∗ pt c sc14 g14 ∗ pt c sc15 g15 ∗ pt c sc16 g16 ∗ pt c sc17 g17 ∗ pt c sc18 g18 ∗ pt c sc19 g19 ∗ pt c sc20 g20 ∗ pt c sc21 g21
          ∗ sem0 c (.dma 13) ∗ sem0 c (.dma 14) ∗ sem0 c (.dma 15) ∗ sem0 c (.dma 16) ∗ sem0 c (.dma 17) ∗ sem0 c (.dma 18) ∗ sem0 c (.dma 19) ∗ sem0 c (.dma 20) ∗ sem0 c (.dma 21) ∗ sem0 c (.dma 22) ∗ sem0 c (.dma 23) ∗ sem0 c (.dma 24) ∗ owes (c : Thread nD τ) 0 W')) := by
  simp only [cc0__kernel_eq_skeleton]; unfold cc0__kernel_skel
  iintro ⟨H1, H2, H3, H5, H6, H7, H4, H8, H9, H10, H11, H12, H13, H14, H15, H16, H17, H18, H19, H20, H21, S13, S14, S15, S16, S17, S18, S19, S20, S21, S22, S23, S24, HW⟩
  by_cases k0_h1 : k0_cond1 i = 1#1
  · have hcut := part51_run c i arg1 harg1 arg2 harg2 arg3 harg3 arg5 harg5 arg6 harg6 arg7 harg7 arg9 harg9 arg10 harg10 k0_h1 X1 X5 X4 X8 f11 f12 f14 f17 f18 f19 f20 f21 W
    set_option sl_exec.stopBefore "k0_part59" in sl_exec_parts
    have e16 : body_run.sl.v141 c arg2 arg3 X2 X3 = DLT (arg2.view.read (Elt F) X2) (arg3.view.read (Elt F) X3) := by
      unfold body_run.sl.v141 View.readCov
      rw [View.readAt_full]
      funext y
      refine View.read_writes_apply_of_pieces _ _ _ _ ?_ y (View.cover_of_tiledL (s := S256x1024) _ S256x128.size (by sl_kernel_rfl) y)
      iterate 8 refine List.forall_mem_cons.2 ⟨fun x => dlt_agree c arg2 arg3 X2 X3 _ _ _ (by rfl) _ _ (by decide) (by decide) x, ?_⟩
      exact fun _ h => absurd h List.not_mem_nil
    have e15 : body_run.sl.v135 c arg2 arg3 X2 X3 = DL (arg2.view.read (Elt F) X2) (arg3.view.read (Elt F) X3) := by
      unfold body_run.sl.v135 View.readCov
      rw [View.readAt_full]
      funext y
      refine View.read_writes_apply_of_pieces _ _ _ _ ?_ y (View.cover_of_tiledL (s := S1024x256) _ S128x256.size (by sl_kernel_rfl) y)
      iterate 8 refine List.forall_mem_cons.2 ⟨fun x => dl_agree c arg2 arg3 X2 X3 _ _ _ (by rfl) _ _ (by decide) x, ?_⟩
      exact fun _ h => absurd h List.not_mem_nil
    have e12 : sc12.view.read (Elt F) (sc12.view.writes (Elt F) g12k0_part51_1 (body_run.sl.Hk0_part51_6_1 k0_part51_r)) = HH (hb4.view.read (Elt F) X4) (arg5.view.read (Elt F) X5) := by
      funext y
      unfold body_run.sl.Hk0_part51_6_1
      have y0 : (y 0).val < 1024 := (y 0).isLt
      have y1 : (y 1).val < 4096 := (y 1).isLt
      rw [View.read_writes_cons_unit (heq := rfl), View.writes_nil]
      split_ifs with hm
      · have hm0 : 896 ≤ (y 0).val ∧ (y 0).val < 896 + 128 := hm 0
        have hm1 : 3968 ≤ (y 1).val ∧ (y 1).val < 3968 + 128 := hm 1
        refine (congrFun (shapeCast_id k0_part51_r shapeCasts_S128x128_S128x128) _).trans ((hk0_part51_0.last _).trans ?_)
        refine congrArg (HH (hb4.view.read (Elt F) X4) (arg5.view.read (Elt F) X5)) (funext fun k => Fin.ext ?_)
        match k with
        | ⟨0, _⟩ => show 896 + 1 * ((y 0).val - 896) = (y 0).val; omega
        | ⟨1, _⟩ => show 3968 + 1 * ((y 1).val - 3968) = (y 1).val; omega
      · refine hk0_part51_0.tiles y ?_
        by_contra hc
        refine hm (Fin.forall_fin_two.2 ⟨?_, ?_⟩)
        · show 896 ≤ (y 0).val ∧ (y 0).val < 896 + 128
          omega
        · show 3968 ≤ (y 1).val ∧ (y 1).val < 3968 + 128
          omega
    have kept := Kept.mk (c := c) (arg1 := arg1) (arg5 := arg5) (X1 := X1) (X5 := X5) (X4 := X4) (X8 := X8) e12 hk0_part51_0.demb hk0_part51_0.order hk0_part51_0.starts
    have e13 : sc13.view.read (Elt F) (sc13.view.writes (Elt F) f13 (⟨Rect.unit ![0, 0] S1024x4096.size inb_S1024x4096_S1024x4096_0_0,
          k0_pay333 (body_run.sl.r_3 c arg2 arg3 arg6 arg7 X2 X3 X6 X7)⟩ :: body_run.sl.H13_1))
        = k0_pay332 (arg7.view.read (Elt F) X7) (arg6.view.read (Elt F) X6) A (DL (arg2.view.read (Elt F) X2) (arg3.view.read (Elt F) X3)) := by
      refine (View.read_writes_full _ _ _ _ _).trans ((shapeCast_id _ shapeCasts_S1024x4096_S1024x4096).trans ?_)
      unfold body_run.sl.r_3
      rw [View.readAt_full, View.readAt_full, e15, hA k0_h1]
      unfold body_run.sl.v134 body_run.sl.H13_1
      rw [View.readCov_full]
    ihave Hc := (part59_run c i arg1 harg1 arg2 harg2 arg3 harg3 arg5 harg5 arg6 harg6 arg7 harg7 arg9 harg9 arg10 harg10 (BitVec.ofNat 32 (i 0).val) (body_run.sl.v161 i) (body_run.sl.v171 i) (body_run.sl.v172 i) X1 g14k0_part51_2 g20k0_part51_6 g21k0_part51_7 _
      hk0_part51_0.order hk0_part51_0.starts) $$ [Hk0_part51_1 Hk0_part51_7 Hk0_part51_11 Hk0_part51_12 H9]
    · isplitl [Hk0_part51_1]; · iexact Hk0_part51_1
      isplitl [Hk0_part51_7]; · iexact Hk0_part51_7
      isplitl [Hk0_part51_11]; · iexact Hk0_part51_11
      isplitl [Hk0_part51_12]; · iexact Hk0_part51_12
      iexact H9
    iapply (wp_seq c _ _ _ _) $$ Hc
    iintro %_ ⟨H1, H14, H20, H21, %g9, %h9, H9⟩
    have e9 := h9
    rw [hk0_part51_0.demb, View.read_writes_full, View.readAt_full, e12, e16] at e9
    by_cases k0_h2 : k0_cond2 i = 1#1
    · sl_exec
      sl_step
      iexists _; iexists _; iexists _; iexists _; iexists _; iexists _; iexists _; iexists _; iexists _; iexists _; iexists _; iexists _; iexists _; iexists _
      isplitr [H1 H2 H3 Hk0_part51_2 H6 H7 Hk0_part51_3 Hk0_part51_4 H9 H10 Hk0_part51_5 Hk0_part51_6 H13 H14 H15 H16 Hk0_part51_8 Hk0_part51_9 Hk0_part51_10 H20 H21 Hk0_part51_13 Hk0_part51_14 Hk0_part51_15 Hk0_part51_16 Hk0_part51_17 Hk0_part51_18 Hk0_part51_19 Hk0_part51_20 Hk0_part51_21 Hk0_part51_22 Hk0_part51_23 Hk0_part51_24 Hk0_part51_25]
      swap
      · isplitl [H1]; · iexact H1
        isplitl [H2]; · iexact H2
        isplitl [H3]; · iexact H3
        isplitl [Hk0_part51_2]; · iexact Hk0_part51_2
        isplitl [H6]; · iexact H6
        isplitl [H7]; · iexact H7
        isplitl [Hk0_part51_3]; · iexact Hk0_part51_3
        isplitl [Hk0_part51_4]; · iexact Hk0_part51_4
        isplitl [H9]; · iexact H9
        isplitl [H10]; · iexact H10
        isplitl [Hk0_part51_5]; · iexact Hk0_part51_5
        isplitl [Hk0_part51_6]; · iexact Hk0_part51_6
        isplitl [H13]; · iexact H13
        isplitl [H14]; · iexact H14
        isplitl [H15]; · iexact H15
        isplitl [H16]; · iexact H16
        isplitl [Hk0_part51_8]; · iexact Hk0_part51_8
        isplitl [Hk0_part51_9]; · iexact Hk0_part51_9
        isplitl [Hk0_part51_10]; · iexact Hk0_part51_10
        isplitl [H20]; · iexact H20
        isplitl [H21]; · iexact H21
        isplitl [Hk0_part51_13]; · iexact Hk0_part51_13
        isplitl [Hk0_part51_14]; · iexact Hk0_part51_14
        isplitl [Hk0_part51_15]; · iexact Hk0_part51_15
        isplitl [Hk0_part51_16]; · iexact Hk0_part51_16
        isplitl [Hk0_part51_17]; · iexact Hk0_part51_17
        isplitl [Hk0_part51_18]; · iexact Hk0_part51_18
        isplitl [Hk0_part51_19]; · iexact Hk0_part51_19
        isplitl [Hk0_part51_20]; · iexact Hk0_part51_20
        isplitl [Hk0_part51_21]; · iexact Hk0_part51_21
        isplitl [Hk0_part51_22]; · iexact Hk0_part51_22
        isplitl [Hk0_part51_23]; · iexact Hk0_part51_23
        isplitl [Hk0_part51_24]; · iexact Hk0_part51_24
        iexact Hk0_part51_25
      ipureintro
      refine ⟨kept, e13, e9, fun _ => ?_, fun h => absurd k0_h2 h⟩
      refine (View.read_writes_full _ _ _ _ _).trans ?_
      rw [e13]
      refine congrArg k0_pay1 (Eq.trans ?_ e13)
      unfold body_run.sl.v217 View.readCov
      exact (View.readAt_full _ _ _).trans ((View.read_writes_full _ _ _ _ _).trans (View.read_writes_full (s := S1024x4096) sc13.view f13 inb_S1024x4096_S1024x4096_0_0 _ _).symm)
    · sl_exec
      sl_step
      iexists _; iexists _; iexists _; iexists _; iexists _; iexists _; iexists _; iexists _; iexists _; iexists _; iexists _; iexists _; iexists _; iexists _
      isplitr [H1 H2 H3 Hk0_part51_2 H6 H7 Hk0_part51_3 Hk0_part51_4 H9 H10 Hk0_part51_5 Hk0_part51_6 H13 H14 H15 H16 Hk0_part51_8 Hk0_part51_9 Hk0_part51_10 H20 H21 Hk0_part51_13 Hk0_part51_14 Hk0_part51_15 Hk0_part51_16 Hk0_part51_17 Hk0_part51_18 Hk0_part51_19 Hk0_part51_20 Hk0_part51_21 Hk0_part51_22 Hk0_part51_23 Hk0_part51_24 Hk0_part51_25]
      swap
      · isplitl [H1]; · iexact H1
        isplitl [H2]; · iexact H2
        isplitl [H3]; · iexact H3
        isplitl [Hk0_part51_2]; · iexact Hk0_part51_2
        isplitl [H6]; · iexact H6
        isplitl [H7]; · iexact H7
        isplitl [Hk0_part51_3]; · iexact Hk0_part51_3
        isplitl [Hk0_part51_4]; · iexact Hk0_part51_4
        isplitl [H9]; · iexact H9
        isplitl [H10]; · iexact H10
        isplitl [Hk0_part51_5]; · iexact Hk0_part51_5
        isplitl [Hk0_part51_6]; · iexact Hk0_part51_6
        isplitl [H13]; · iexact H13
        isplitl [H14]; · iexact H14
        isplitl [H15]; · iexact H15
        isplitl [H16]; · iexact H16
        isplitl [Hk0_part51_8]; · iexact Hk0_part51_8
        isplitl [Hk0_part51_9]; · iexact Hk0_part51_9
        isplitl [Hk0_part51_10]; · iexact Hk0_part51_10
        isplitl [H20]; · iexact H20
        isplitl [H21]; · iexact H21
        isplitl [Hk0_part51_13]; · iexact Hk0_part51_13
        isplitl [Hk0_part51_14]; · iexact Hk0_part51_14
        isplitl [Hk0_part51_15]; · iexact Hk0_part51_15
        isplitl [Hk0_part51_16]; · iexact Hk0_part51_16
        isplitl [Hk0_part51_17]; · iexact Hk0_part51_17
        isplitl [Hk0_part51_18]; · iexact Hk0_part51_18
        isplitl [Hk0_part51_19]; · iexact Hk0_part51_19
        isplitl [Hk0_part51_20]; · iexact Hk0_part51_20
        isplitl [Hk0_part51_21]; · iexact Hk0_part51_21
        isplitl [Hk0_part51_22]; · iexact Hk0_part51_22
        isplitl [Hk0_part51_23]; · iexact Hk0_part51_23
        isplitl [Hk0_part51_24]; · iexact Hk0_part51_24
        iexact Hk0_part51_25
      ipureintro
      exact ⟨kept, e13, e9, fun h => absurd h k0_h2, fun _ => rfl⟩
  · obtain ⟨kept, h13⟩ := hK k0_h1
    set_option sl_exec.stopBefore "k0_part59" in sl_exec_parts
    have e16 : body_run.sl.v141_1 c arg2 arg3 X2 X3 = DLT (arg2.view.read (Elt F) X2) (arg3.view.read (Elt F) X3) := by
      unfold body_run.sl.v141_1 View.readCov
      rw [View.readAt_full]
      funext y
      refine View.read_writes_apply_of_pieces _ _ _ _ ?_ y (View.cover_of_tiledL (s := S256x1024) _ S256x128.size (by sl_kernel_rfl) y)
      iterate 8 refine List.forall_mem_cons.2 ⟨fun x => dlt_agree c arg2 arg3 X2 X3 _ _ _ (by rfl) _ _ (by decide) (by decide) x, ?_⟩
      exact fun _ h => absurd h List.not_mem_nil
    have e15 : body_run.sl.v135_1 c arg2 arg3 X2 X3 = DL (arg2.view.read (Elt F) X2) (arg3.view.read (Elt F) X3) := by
      unfold body_run.sl.v135_1 View.readCov
      rw [View.readAt_full]
      funext y
      refine View.read_writes_apply_of_pieces _ _ _ _ ?_ y (View.cover_of_tiledL (s := S1024x256) _ S128x256.size (by sl_kernel_rfl) y)
      iterate 8 refine List.forall_mem_cons.2 ⟨fun x => dl_agree c arg2 arg3 X2 X3 _ _ _ (by rfl) _ _ (by decide) x, ?_⟩
      exact fun _ h => absurd h List.not_mem_nil
    have e13 : sc13.view.read (Elt F) (sc13.view.writes (Elt F) f13 [⟨Rect.unit ![0, 0] S1024x4096.size inb_S1024x4096_S1024x4096_0_0,
          k0_pay333 (body_run.sl.r_7 c arg2 arg3 arg6 arg7 X2 X3 X6 X7 f13)⟩])
        = k0_pay332 (arg7.view.read (Elt F) X7) (arg6.view.read (Elt F) X6) A (DL (arg2.view.read (Elt F) X2) (arg3.view.read (Elt F) X3)) := by
      refine (View.read_writes_full _ _ _ _ _).trans ((shapeCast_id _ shapeCasts_S1024x4096_S1024x4096).trans ?_)
      unfold body_run.sl.r_7
      rw [View.readAt_full, View.readAt_full, View.readAt_full, e15, h13]
    ihave Hc := (part59_run c i arg1 harg1 arg2 harg2 arg3 harg3 arg5 harg5 arg6 harg6 arg7 harg7 arg9 harg9 arg10 harg10 (BitVec.ofNat 32 (i 0).val) (body_run.sl.v161 i) (body_run.sl.v171 i) (body_run.sl.v172 i) X1 f14 f20 f21 _ kept.order kept.starts) $$ [H1 H14 H20 H21 H9]
    · isplitl [H1]; · iexact H1
      isplitl [H14]; · iexact H14
      isplitl [H20]; · iexact H20
      isplitl [H21]; · iexact H21
      iexact H9
    iapply (wp_seq c _ _ _ _) $$ Hc
    iintro %_ ⟨H1, H14, H20, H21, %g9, %h9, H9⟩
    have e9 := h9
    rw [kept.demb, View.read_writes_full, View.readAt_full, kept.hh, e16] at e9
    by_cases k0_h2 : k0_cond2 i = 1#1
    · sl_exec
      sl_step
      iexists _; iexists _; iexists _; iexists _; iexists _; iexists _; iexists _; iexists _; iexists _; iexists _; iexists _; iexists _; iexists _; iexists _
      isplitr [H1 H2 H3 H5 H6 H7 H4 H8 H9 H10 H11 H12 H13 H14 H15 H16 H17 H18 H19 H20 H21 S13 S14 S15 S16 S17 S18 S19 S20 S21 S22 S23 S24 HW]
      swap
      · isplitl [H1]; · iexact H1
        isplitl [H2]; · iexact H2
        isplitl [H3]; · iexact H3
        isplitl [H5]; · iexact H5
        isplitl [H6]; · iexact H6
        isplitl [H7]; · iexact H7
        isplitl [H4]; · iexact H4
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [S13]; · iexact S13
        isplitl [S14]; · iexact S14
        isplitl [S15]; · iexact S15
        isplitl [S16]; · iexact S16
        isplitl [S17]; · iexact S17
        isplitl [S18]; · iexact S18
        isplitl [S19]; · iexact S19
        isplitl [S20]; · iexact S20
        isplitl [S21]; · iexact S21
        isplitl [S22]; · iexact S22
        isplitl [S23]; · iexact S23
        isplitl [S24]; · iexact S24
        iexact HW
      ipureintro
      refine ⟨kept, e13, e9, fun _ => ?_, fun h => absurd k0_h2 h⟩
      refine (View.read_writes_full _ _ _ _ _).trans ?_
      rw [e13]
      refine congrArg k0_pay1 (Eq.trans ?_ e13)
      unfold body_run.sl.v217_1 View.readCov
      exact (View.readAt_full _ _ _).trans ((View.read_writes_full _ _ _ _ _).trans (View.read_writes_full (s := S1024x4096) sc13.view f13 inb_S1024x4096_S1024x4096_0_0 _ _).symm)
    · sl_exec
      sl_step
      iexists _; iexists _; iexists _; iexists _; iexists _; iexists _; iexists _; iexists _; iexists _; iexists _; iexists _; iexists _; iexists _; iexists _
      isplitr [H1 H2 H3 H5 H6 H7 H4 H8 H9 H10 H11 H12 H13 H14 H15 H16 H17 H18 H19 H20 H21 S13 S14 S15 S16 S17 S18 S19 S20 S21 S22 S23 S24 HW]
      swap
      · isplitl [H1]; · iexact H1
        isplitl [H2]; · iexact H2
        isplitl [H3]; · iexact H3
        isplitl [H5]; · iexact H5
        isplitl [H6]; · iexact H6
        isplitl [H7]; · iexact H7
        isplitl [H4]; · iexact H4
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [S13]; · iexact S13
        isplitl [S14]; · iexact S14
        isplitl [S15]; · iexact S15
        isplitl [S16]; · iexact S16
        isplitl [S17]; · iexact S17
        isplitl [S18]; · iexact S18
        isplitl [S19]; · iexact S19
        isplitl [S20]; · iexact S20
        isplitl [S21]; · iexact S21
        isplitl [S22]; · iexact S22
        isplitl [S23]; · iexact S23
        isplitl [S24]; · iexact S24
        iexact HW
      ipureintro
      exact ⟨kept, e13, e9, fun h => absurd h k0_h2, fun _ => rfl⟩

end Cert.Kernel.Hand
end
-- ==== Proof.KernelDat.lean ====
/-
  The pipeline's proof data: what each window's buffer and the kernel's own buffers hold at every grid point; the run and the frame.
-/
module

public import proofs.«01_k».proof.Proof.KernelBody
public import proofs.«01_k».proof.Proof.Gen.Kernel.Frame

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

/-! ## The grid's closed forms -/

theorem coord_eq : ∀ t : Fin grid0.N, ((grid0.coords t) 0).val = t.val := by decide +kernel
theorem cond1_iff : ∀ t : Fin grid0.N, k0_cond1 (grid0.coords t) = 1#1 ↔ t.val = 0 := by decide +kernel
theorem cond2_iff : ∀ t : Fin grid0.N, k0_cond2 (grid0.coords t) = 1#1 ↔ t.val = 124 := by decide +kernel

/-- The first grid point. -/
def pt0 : Fin cfg0.N := ⟨0, by decide⟩
theorem iblk0_const (c : Dev nD) (t : Fin cfg0.N) : iblk m c 0 t = iblk m c 0 pt0 := rfl
theorem iblk3_const (c : Dev nD) (t : Fin cfg0.N) : iblk m c 3 t = iblk m c 3 pt0 := rfl

/-! ## The values -/

/-- The token ids. -/
def idsOf (c : Dev nD) : Fin 1024 → BitVec 32 := toks (F := F) (iblk m c 0 pt0)
/-- The gradient of the embeddings. -/
def dembOf (c : Dev nD) : Vec F S1024x4096 .bf16 := hb8.view.read (Elt F) (V m c main_v4)
/-- The dequantized activations. -/
def hhOf (c : Dev nD) : Vec F S1024x4096 .bf16 := HH (hb4.view.read (Elt F) (V m c main_v2)) (iblk m c 3 pt0)
/-- The accumulator of the activations' gradient before point `n`. -/
def accOf (c : Dev nD) : ℕ → FVec F S1024x4096 .f32
  | 0 => k0_pay306
  | n + 1 => if h : n < cfg0.N then k0_pay332 (iblk m c 5 ⟨n, h⟩) (iblk m c 4 ⟨n, h⟩) (accOf c n) (DL (iblk m c 1 ⟨n, h⟩) (iblk m c 2 ⟨n, h⟩)) else accOf c n
/-- The block of the embedding's gradient written at point `t`. -/
def dEOf (c : Dev nD) (t : Fin cfg0.N) : Vec F S256x4096 .f32 :=
  addRows (idsOf m c) (dembOf m c) t.val (TokenSort.start (idsOf m c) t.val) (k0_pay334 (DLT (iblk m c 1 t) (iblk m c 2 t)) (hhOf m c))
    (TokenSort.start (idsOf m c) (t.val + 1) - TokenSort.start (idsOf m c) t.val)

/-- What the kernel keeps between grid points, as values. -/
structure KeptV (c : Dev nD) (g12 : Cts (F := F) c sc12) (g14 : Cts (F := F) c sc14) (g20 : Cts (F := F) c sc20) (g21 : Cts (F := F) c sc21) : Prop where
  hh : sc12.view.read (Elt F) g12 = hhOf m c
  demb : sc14.view.read (Elt F) g14 = dembOf m c
  order : ∀ k, toks (sc20.view.read (Elt F) g20) k = BitVec.ofNat 32 (TokenSort.order (idsOf m c) k).val
  starts : ∀ j, sc21.view.read (Elt F) g21 j = BitVec.ofNat 32 (TokenSort.start (idsOf m c) (lane j).val)

/-! ## The invariant -/

/-- The kernel's own transfer cells. -/
abbrev osem0 : Fin 12 → SemLoc sig := fun j => (![SemLoc.dma 13, SemLoc.dma 14, SemLoc.dma 15, SemLoc.dma 16, SemLoc.dma 17, SemLoc.dma 18,
  SemLoc.dma 19, SemLoc.dma 20, SemLoc.dma 21, SemLoc.dma 22, SemLoc.dma 23, SemLoc.dma 24] : Fin 12 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(sem0 c (.dma 13) ∗ sem0 c (.dma 14) ∗ sem0 c (.dma 15) ∗ sem0 c (.dma 16) ∗ sem0 c (.dma 17) ∗ sem0 c (.dma 18) ∗ sem0 c (.dma 19) ∗ sem0 c (.dma 20) ∗ sem0 c (.dma 21) ∗ sem0 c (.dma 22) ∗ sem0 c (.dma 23) ∗ sem0 c (.dma 24)) := by
  rw [Pipeline.ownSems0_eq_of_list c osem0 [0, 1, 2, 3, 4, 5, 6, 7, 8, 9, 10, 11] (by decide) (by decide)]; rfl
/-- The operands left in HBM. -/
def H0 : Finset (Ref sig .tc) := {main_v2, main_v4}
theorem H0_sub : H0 ⊆ Pipeline.restRefs sig spec0 := by decide
theorem hbmPts0_eq (c : Dev nD) :
    (bigSep H0 (fun b => ((c : Thread nD τ).loc b) ↦{fullShare} V m c b) : sProp 𝕄)
      = iprop(pt c hb4 (V m c main_v2) ∗ pt c hb8 (V m c main_v4)) := by
  rw [BI.bigSep_eq_bigSepL_of_eq [main_v2, main_v4] (by decide) (by decide)]
  simp only [pt, hb4, hb8, Memref.view_whole, View.set_whole]; try rfl

/-- What the kernel's own buffers hold before point `n`. -/
def Inv (c : Dev nD) (n : ℕ) : sProp 𝕄 :=
  iprop((∃ (f11 : Cts (F := F) c sc11) (f12 : Cts (F := F) c sc12) (f13 : Cts (F := F) c sc13) (f14 : Cts (F := F) c sc14) (f15 : Cts (F := F) c sc15) (f16 : Cts (F := F) c sc16)
      (f17 : Cts (F := F) c sc17) (f18 : Cts (F := F) c sc18) (f19 : Cts (F := F) c sc19) (f20 : Cts (F := F) c sc20) (f21 : Cts (F := F) c sc21),
      ⌜n ≠ 0 → KeptV m c f12 f14 f20 f21 ∧ sc13.view.read (Elt F) f13 = accOf m c n⌝
      ∗ pt c sc11 f11 ∗ pt c sc12 f12 ∗ pt c sc13 f13 ∗ pt c sc14 f14 ∗ pt c sc15 f15 ∗ pt c sc16 f16 ∗ pt c sc17 f17 ∗ pt c sc18 f18 ∗ pt c sc19 f19 ∗ pt c sc20 f20 ∗ pt c sc21 f21)
    ∗ (∃ r, prngReg c r) ∗ (sem0 c (.dma 13) ∗ sem0 c (.dma 14) ∗ sem0 c (.dma 15) ∗ sem0 c (.dma 16) ∗ sem0 c (.dma 17) ∗ sem0 c (.dma 18) ∗ sem0 c (.dma 19) ∗ sem0 c (.dma 20) ∗ sem0 c (.dma 21) ∗ sem0 c (.dma 22) ∗ sem0 c (.dma 23) ∗ sem0 c (.dma 24)) ∗ pt c hb4 (V m c main_v2) ∗ pt c hb8 (V m c main_v4))

theorem scr_eq (c : Dev nD) :
    (Pipeline.scopedRest (Ix := Unit) (Name := ℕ) (U := Pipeline.UD sig nD τ) (Lvl := ℕ) (Val := Elt F) spec0 c : sProp 𝕄)
      = iprop((∃ f, pt c sc11 f) ∗ (∃ f, pt c sc12 f) ∗ (∃ f, pt c sc13 f) ∗ (∃ f, pt c sc14 f) ∗ (∃ f, pt c sc15 f) ∗ (∃ f, pt c sc16 f) ∗ (∃ f, pt c sc17 f)
        ∗ (∃ f, pt c sc18 f) ∗ (∃ f, pt c sc19 f) ∗ (∃ f, pt c sc20 f) ∗ (∃ f, pt c sc21 f)) := by
  rw [scopedRest0_eq]
  simp only [pt, Memref.view_whole, View.set_whole]; try rfl

theorem Inv_in (c : Dev nD) : Pipeline.ΦD osem0 spec0 H0 (V m) c ⊢ (Inv m c 0 : sProp 𝕄) := by
  rw [Pipeline.ΦD_eq, scr_eq, ownSems00_eq, hbmPts0_eq]
  unfold Inv
  iintro ⟨⟨⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩⟩, Hr⟩
  isplitr [Hr]
  swap
  · iexact Hr
  iexists f11; iexists f12; iexists f13; iexists f14; iexists f15; iexists f16; iexists f17; iexists f18; iexists f19; iexists f20; iexists f21
  isplitr
  · ipureintro; exact fun h => absurd rfl h
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem Inv_out (c : Dev nD) (n : ℕ) : (Inv m c n : sProp 𝕄) ⊢ Pipeline.ΦD osem0 spec0 H0 (V m) c := by
  rw [Pipeline.ΦD_eq, scr_eq, ownSems00_eq, hbmPts0_eq]
  unfold Inv
  iintro ⟨⟨%f11, %f12, %f13, %f14, %f15, %f16, %f17, %f18, %f19, %f20, %f21, -, H11, H12, H13, H14, H15, H16, H17, H18, H19, H20, H21⟩, Hr⟩
  isplitr [Hr]
  swap
  · iexact Hr
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  iexists _; iexact H21

/-! ## The proof data -/

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dEOf m c t
    | ⟨7, _⟩ => k0_pay1 (accOf m c (t.val + 1))
  Φ t := Inv m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = dEOf m c t := by dsimp only [dats]
theorem after0_7 (c : Dev nD) (t : Fin cfg0.N) : (dats m 0 c).after 7 t = k0_pay1 (accOf m c (t.val + 1)) := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)

/-- What window 7's buffer holds after the body: the rounded accumulator at the last point, what it held elsewhere. -/
def post7 (c : Dev nD) (t : Fin cfg0.N) : sProp 𝕄 :=
  match cfg0.idle 7 (cfg0.grid.coords t) with
  | true => match (cfg0.win 7).flush t with
    | false => iprop(∃ d, owns (c : Thread nD τ) (st0_7 t) fullShare ((dats m 0 c).before 7 t d))
    | true => owns (c : Thread nD τ) (st0_7 t) fullShare ((dats m 0 c).after 7 t)
  | false => owns (c : Thread nD τ) (st0_7 t) fullShare ((dats m 0 c).after 7 t)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ post7 m c t)

theorem post7_of (c : Dev nD) (t : Fin cfg0.N) (d : (cfg0.win 7).block.Idx → Elt F (cfg0.win 7).elt) (f g : Cts (F := F) c (st0_7 t)) (hf : (st0_7 t).view.read (Elt F) f = (dats m 0 c).before 7 t d)
    (h2 : k0_cond2 (grid0.coords t) = 1#1 → (st0_7 t).view.read (Elt F) g = k0_pay1 (accOf m c (t.val + 1)))
    (h3 : ¬ k0_cond2 (grid0.coords t) = 1#1 → g = f) : pt c (st0_7 t) g ⊢ post7 m c t := by
  unfold post7
  by_cases h : k0_cond2 (grid0.coords t) = 1#1
  · rw [show cfg0.idle 7 (cfg0.grid.coords t) = false from by
      show (!(k0_cond2 (grid0.coords t) == 1#1)) = false
      rw [h]; rfl]
    rw [after0_7]
    unfold owns
    iintro H; iexists g; isplitr
    · ipureintro; exact h2 h
    · iexact H
  · rw [show cfg0.idle 7 (cfg0.grid.coords t) = true from by
      show (!(k0_cond2 (grid0.coords t) == 1#1)) = true
      rw [beq_eq_false_iff_ne.2 h]; rfl]
    rw [show (cfg0.win 7).flush t = false from Bool.eq_false_iff.2 fun hf => h ((cond2_iff t).2 (by
      have := (flush0_7 t).1 hf
      have ht : t.val < 125 := lt_of_lt_of_eq t.isLt N_0
      omega))]
    unfold owns
    iintro H; iexists d; iexists g; isplitr
    · ipureintro; rw [h3 h]; exact hf
    · iexact H

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.castSucc = Inv m c t.val from rfl, show (dats m 0 c).Φ t.succ = Inv m c (t.val + 1) from rfl]
  rw [after0_0, after0_1, after0_2, after0_3, after0_4, after0_5, after0_6]
  simp only [before0_0, before0_1, before0_2, before0_3, before0_4, before0_5]
  unfold Dat.owesAt Pipeline.owesWithin
  rw [show (dats m 0 c).owed t.castSucc = 0 from rfl, show (dats m 0 c).owed t.succ = 0 from rfl]
  unfold Inv
  conv_lhs => unfold owns
  iintro ⟨⟨⟨%f11, %f12, %f13, %f14, %f15, %f16, %f17, %f18, %f19, %f20, %f21, %hI, H11, H12, H13, H14, H15, H16, H17, H18, H19, H20, H21⟩, Hg, ⟨S13, S14, S15, S16, S17, S18, S19, S20, S21, S22, S23, S24⟩, H4, H8⟩, ⟨%W, -, HW⟩,
    ⟨%d0, %X1, %h1, H1⟩, ⟨%d1, %X2, %h2, H2⟩, ⟨%d2, %X3, %h3, H3⟩, ⟨%d3, %X5, %h5, H5⟩, ⟨%d4, %X6, %h6, H6⟩, ⟨%d5, %X7, %h7, H7⟩, ⟨%d6, %f9, %h9, H9⟩, ⟨%d7, %f10, %h10, H10⟩⟩
  have hb := body_run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2))
    (st0_3 t) (hstage0_3 ((cfg0.slots t 3).cast nbuf0_3)) (st0_4 t) (hstage0_4 ((cfg0.slots t 4).cast nbuf0_4)) (st0_5 t) (hstage0_5 ((cfg0.slots t 5).cast nbuf0_5))
    (st0_6 t) (hstage0_6 ((cfg0.slots t 6).cast nbuf0_6)) (st0_7 t) (hstage0_7 ((cfg0.slots t 7).cast nbuf0_7))
    (accOf m c t.val) X1 X2 X3 X5 X6 X7 (V m c main_v2) (V m c main_v4) f9 f10 f11 f12 f13 f14 f15 f16 f17 f18 f19 f20 f21 W
    (fun h => by rw [(cond1_iff t).1 h]; rfl)
    (fun h => by
      obtain ⟨hk, ha⟩ := hI (mt (cond1_iff t).2 h)
      refine ⟨⟨?_, hk.demb, ?_, ?_⟩, ha⟩
      · rw [h5]; exact hk.hh
      · rw [h1]; exact hk.order
      · rw [h1]; exact hk.starts)
  ihave Hb := hb $$ [H1 H2 H3 H5 H6 H7 H4 H8 H9 H10 H11 H12 H13 H14 H15 H16 H17 H18 H19 H20 H21 S13 S14 S15 S16 S17 S18 S19 S20 S21 S22 S23 S24 HW]
  · isplitl [H1]; · iexact H1
    isplitl [H2]; · iexact H2
    isplitl [H3]; · iexact H3
    isplitl [H5]; · iexact H5
    isplitl [H6]; · iexact H6
    isplitl [H7]; · iexact H7
    isplitl [H4]; · iexact H4
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S23]; · iexact S23
    isplitl [S24]; · iexact S24
    iexact HW
  iapply (wp_wand _ _ _) $$ Hb
  iintro %_ ⟨%g9, %g10, %g11, %g12, %g13, %g14, %g15, %g16, %g17, %g18, %g19, %g20, %g21, %W', ⟨%kept, %e13, %e9, %e10, %e10'⟩, H1, H2, H3, H5, H6, H7, H4, H8, H9, H10, H11, H12, H13, H14, H15, H16, H17, H18, H19, H20, H21, S13, S14, S15, S16, S17, S18, S19, S20, S21, S22, S23, S24, HW⟩
  have ea : sc13.view.read (Elt F) g13 = accOf m c (t.val + 1) := by
    rw [e13, h2, h3, h6, h7]
    show _ = dite _ _ _
    rw [dif_pos t.isLt]
  isplitl [H4 H8 H11 H12 H13 H14 H15 H16 H17 H18 H19 H20 H21 S13 S14 S15 S16 S17 S18 S19 S20 S21 S22 S23 S24 Hg]
  · isplitl [H11 H12 H13 H14 H15 H16 H17 H18 H19 H20 H21]
    · iexists g11; iexists g12; iexists g13; iexists g14; iexists g15; iexists g16; iexists g17; iexists g18; iexists g19; iexists g20; iexists g21
      isplitr
      · ipureintro
        refine fun _ => ⟨⟨?_, kept.demb, ?_, ?_⟩, ea⟩
        · rw [kept.hh, h5]; rfl
        · have := kept.order; rw [h1] at this; exact this
        · have := kept.starts; rw [h1] at this; exact this
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      iexact H21
    isplitl [Hg]; · iexact Hg
    isplitl [S13 S14 S15 S16 S17 S18 S19 S20 S21 S22 S23 S24]
    · isplitl [S13]; · iexact S13
      isplitl [S14]; · iexact S14
      isplitl [S15]; · iexact S15
      isplitl [S16]; · iexact S16
      isplitl [S17]; · iexact S17
      isplitl [S18]; · iexact S18
      isplitl [S19]; · iexact S19
      isplitl [S20]; · iexact S20
      isplitl [S21]; · iexact S21
      isplitl [S22]; · iexact S22
      isplitl [S23]; · iexact S23
      iexact S24
    isplitl [H4]; · iexact H4
    iexact H8
  isplitl [HW]
  · iexists W'; isplitr; · ipureintro; exact fun _ _ => Or.inl trivial
    iexact HW
  isplitl [H1]; · unfold owns; iexists X1; isplitr; · ipureintro; exact h1
                  iexact H1
  isplitl [H2]; · unfold owns; iexists X2; isplitr; · ipureintro; exact h2
                  iexact H2
  isplitl [H3]; · unfold owns; iexists X3; isplitr; · ipureintro; exact h3
                  iexact H3
  isplitl [H5]; · unfold owns; iexists X5; isplitr; · ipureintro; exact h5
                  iexact H5
  isplitl [H6]; · unfold owns; iexists X6; isplitr; · ipureintro; exact h6
                  iexact H6
  isplitl [H7]; · unfold owns; iexists X7; isplitr; · ipureintro; exact h7
                  iexact H7
  isplitl [H9]
  · unfold owns; iexists g9; isplitr
    · ipureintro
      rw [e9, h1, h2, h3, h5, coord_eq]; rfl
    iexact H9
  iapply (post7_of m c t d7 f10 g10 h10 (fun h => by rw [e10 h, ea]) e10')
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun c => Inv_in m c) (hout := fun c => Inv_out m c _)

/-- The arguments end unchanged. -/
theorem args_of (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by decide))).trans (V_main_arg0 m c),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩

/-- The frame: every argument ends unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨args_of m r h.1, h.2⟩) (run_main m ρ)

end Cert.Kernel.Hand

end
-- ==== Proof.KernelIdealWords.lean ====
/-
  The integer payloads of the kernel body at an element, and reads of single words.
-/
module

public import proofs.«01_k».proof.Proof.Gen.KernelIdeal.Launch
public import proofs.«01_k».proof.Proof.Gen.KernelIdeal.Loops
public import proofs.«01_k».proof.Proof.Gen.KernelIdeal.Skeleton
public import proofs.«01_k».proof.Proof.Gen.KernelIdeal.Points
public import proofs.«01_k».proof.Proof.Sort
public import Idealize.ShloMosaic.Lib.Pipeline.FrameBody
public import Idealize.ShloMosaic.Lib.Tactic
public import Idealize.ShloMosaic.Lib.WordCmp
public import Idealize.ShloMosaic.Lib.ValueIdxCore

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Position `u` of a list of 1024. -/
def ix1 (u : Fin 1024) : S1024.Idx := fun a => ⟨u.val, by have := u.isLt; fin_cases a; exact this⟩
/-- The token of a lane of an (8, 128) register. -/
def lane (j : S8x128.Idx) : Fin 1024 := ⟨128 * (j 0).val + (j 1).val, by
  have h0 : (j 0).val < 8 := (j 0).isLt
  have h1 : (j 1).val < 128 := (j 1).isLt
  omega⟩
/-- The lane of a token. -/
def ix2 (u : Fin 1024) : S8x128.Idx := fun a => match a with
  | ⟨0, _⟩ => ⟨u.val / 128, by have := u.isLt; show _ < 8; omega⟩
  | ⟨1, _⟩ => ⟨u.val % 128, by show _ < 128; omega⟩

theorem lane_ix2 (u : Fin 1024) : lane (ix2 u) = u := by
  apply Fin.ext; unfold lane ix2; simp only []; omega

/-- The ids a list holds. -/
def toks (X : Vec F S1024 .i32) : Fin 1024 → BitVec 32 := fun u => X (ix1 u)

theorem rd1 {sp : Space} (v : View sig .tc sp S1024 .i32) (X : v.ty.Contents (Elt F)) {off : Fin 1 → ℕ} (h) (u : Fin 1024) (hu : off 0 = u.val)
    (x : (Rect.unit (s := S1024) off S1.size h).toLoadRect.shape.Idx) :
    v.readAt (Elt F) (Rect.unit (s := S1024) off S1.size h).toLoadRect X x = v.read (Elt F) X (ix1 u) := by
  rw [View.readAt_apply]
  refine congrArg (v.read (Elt F) X) (funext fun a => Fin.ext ?_)
  fin_cases a
  show off 0 + 1 * (x 0).val = u.val
  have h1 : (x 0).val < 1 := (x 0).isLt
  omega

theorem rd2 {sp : Space} (v : View sig .tc sp S8x128 .i32) (X : v.ty.Contents (Elt F)) {off : Fin 2 → ℕ} (h) (j : S8x128.Idx)
    (h0 : off 0 = (j 0).val) (h1 : off 1 = (j 1).val)
    (x : (Rect.unit (s := S8x128) off S1x1.size h).toLoadRect.shape.Idx) :
    v.readAt (Elt F) (Rect.unit (s := S8x128) off S1x1.size h).toLoadRect X x = v.read (Elt F) X j := by
  rw [View.readAt_apply]
  refine congrArg (v.read (Elt F) X) (funext fun a => Fin.ext ?_)
  have e0 : (x 0).val < 1 := (x 0).isLt
  have e1 : (x 1).val < 1 := (x 1).isLt
  fin_cases a
  · show off 0 + 1 * (x 0).val = (j 0).val
    omega
  · show off 1 + 1 * (x 1).val = (j 1).val
    omega

theorem pay2_apply (j : S8x128.Idx) : k0_pay2 j = BitVec.ofNat 32 (lane j).val := by
  have h0 : (j 0).val < 8 := (j 0).isLt
  have h1 : (j 1).val < 128 := (j 1).isLt
  unfold k0_pay2
  show BitVec.ofNat 32 (0 * 8 + (j 0).val) * 128#32 + BitVec.ofNat 32 (0 * 128 + (j 1).val) = _
  apply BitVec.eq_of_toNat_eq
  unfold lane
  simp only [BitVec.toNat_add, BitVec.toNat_mul, BitVec.toNat_ofNat]
  omega

theorem iv_eq (k : ℕ) : Scf.iv 0#32 1#32 k = BitVec.ofNat 32 k := by
  unfold Scf.iv; simp

theorem extui_bit (p : Prop) [Decidable p] (b : Bool) (h : b = true ↔ p) :
    (BitVec.ofBool b).setWidth 32 = if p then 1#32 else 0#32 := by
  by_cases hp : p
  · rw [if_pos hp, h.2 hp]; rfl
  · rw [if_neg hp, Bool.eq_false_iff.2 (mt h.1 hp)]; rfl

theorem slt_small {a b : ℕ} (ha : a < 2 ^ 31) (hb : b < 2 ^ 31) : (BitVec.ofNat 32 a).slt (BitVec.ofNat 32 b) = true ↔ a < b := by
  rw [BitVec.slt_iff_toInt_lt, WordCmp.toInt_ofNat_of_lt (by simpa using ha), WordCmp.toInt_ofNat_of_lt (by simpa using hb)]
  omega

theorem pay4_apply (k : Fin k0_t2_loop.trips) (acc : IVec S1x128 32) (w : Elt F .i32) (j : S1x128.Idx) :
    k0_pay4 (F := F) k acc w j = if (j 1).val = k.val then w else acc j := by
  have h0 : (j 0).val < 1 := (j 0).isLt
  have h1 : (j 1).val < 128 := (j 1).isLt
  have hk : k.val < 128 := Nat.lt_of_lt_of_le k.isLt k0_t2_abs.2.1
  unfold k0_pay4
  show (if BitVec.ofBool (k0_pay2 _ == Scf.iv 0#32 1#32 k) = 1#1 then w else acc j) = _
  rw [pay2_apply, iv_eq]
  refine if_congr ?_ rfl rfl
  rw [WordCmp.ofBool_eq_one_iff, beq_iff_eq, WordCmp.ofNat_eq_ofNat_iff (lt_trans (lane _).isLt (by norm_num)) (lt_trans hk (by norm_num))]
  show 128 * (0 + (j 0).val) + (0 + (j 1).val) = k.val ↔ _
  omega

theorem pay8_apply (v232 : Vec F S8x128 .i32) (k : Fin k0_t3_loop.trips) (acc : IVec S8x128 32) (w : Elt F .i32) (j : S8x128.Idx) :
    k0_pay8 (F := F) v232 k acc w j
      = acc j + (if BitVec.slt w (v232 j) = true ∨ (w = v232 j ∧ k.val < (lane j).val) then 1#32 else 0#32) := by
  have hk : k.val < 1024 := Nat.lt_of_lt_of_le k.isLt k0_t3_abs.2.1
  have hj := (lane j).isLt
  unfold k0_pay8
  show acc j + (BitVec.ofBool (BitVec.slt w (v232 j)) ||| (BitVec.ofBool (w == v232 j) &&& BitVec.ofBool ((Scf.iv 0#32 1#32 k).slt (k0_pay2 j)))).setWidth 32 = _
  rw [pay2_apply, iv_eq]
  congr 1
  have e : ∀ a b c : Bool, (BitVec.ofBool a ||| (BitVec.ofBool b &&& BitVec.ofBool c)) = BitVec.ofBool (a || (b && c)) := by decide
  rw [e]
  refine extui_bit _ _ ?_
  rw [Bool.or_eq_true, Bool.and_eq_true, slt_small (by omega) (by omega), beq_iff_eq]

theorem pay9_apply (acc : IVec S8x128 32) (w : Elt F .i32) (j : S8x128.Idx) :
    k0_pay9 (F := F) acc w j = acc j + (if BitVec.toInt w < ((256 * (lane j).val : ℕ) : Int) then 1#32 else 0#32) := by
  have hj := (lane j).isLt
  unfold k0_pay9
  show acc j + (BitVec.ofBool (BitVec.slt w (k0_pay2 j * 256#32))).setWidth 32 = _
  congr 1
  refine extui_bit _ _ ?_
  have e : k0_pay2 j * 256#32 = BitVec.ofNat 32 (256 * (lane j).val) := by
    rw [pay2_apply]
    apply BitVec.eq_of_toNat_eq
    simp only [BitVec.toNat_mul, BitVec.toNat_ofNat]
    omega
  rw [e, BitVec.slt_iff_toInt_lt, WordCmp.toInt_ofNat_of_lt (by norm_num; omega)]

theorem off6_eq (i : grid0.Coords) : k0_off6 i = ![(i 0).val / 128, (i 0).val % 128] := by
  revert i; decide +kernel
theorem off7_eq (i : grid0.Coords) : k0_off7 i = ![((i 0).val + 1) / 128, ((i 0).val + 1) % 128] := by
  revert i; decide +kernel

theorem off5_eq (w : BitVec 32) : k0_off5 w = ![w.toNat] := rfl
theorem off9_eq (w : BitVec 32) : k0_off9 w = ![w.toNat] := rfl
/-- Whether a token's number is even, as the kernel computes it. -/
def even (w : BitVec 32) : BitVec 1 :=
  let v243 : BitVec 1 := Scalar.cmpi .eq 2#32 0#32
  let v244 : BitVec 32 := Scalar.select v243 1#32 2#32
  let v245 : BitVec 32 := Scalar.remsi w v244
  let v246 : BitVec 1 := Scalar.cmpi .ne v245 0#32
  let v247 : BitVec 1 := Scalar.cmpi .slt v245 0#32
  let v248 : BitVec 1 := Scalar.cmpi .slt v244 0#32
  let v249 : BitVec 1 := Scalar.xori v247 v248
  let v250 : BitVec 1 := Scalar.andi v249 v246
  let v251 : BitVec 32 := Scalar.addi v245 v244
  let v252 : BitVec 32 := Scalar.select v250 v251 v245
  Scalar.cmpi .eq v252 0#32

/-- The pair of rows that holds a token's. -/
theorem off10_eq : ∀ w : Fin 1024, k0_off10 (BitVec.ofNat 32 w.val) = ![2 * (w.val / 2), 0] := by
  decide +kernel

theorem even_eq : ∀ w : Fin 1024, even (BitVec.ofNat 32 w.val) = if w.val % 2 = 0 then 1#1 else 0#1 := by
  decide +kernel

theorem divsi_one (x : BitVec 32) : Scalar.divsi x 1#32 = x := by
  unfold Scalar.divsi IntOp.divsi
  rw [if_neg (by unfold IntOp.SDivCorner; simp), BitVec.sdiv_one]

theorem t6_eq (a b : BitVec 32) : k0_t6_loop a b = ⟨a, b, 1#32⟩ := by
  show (⟨a, a + Scalar.muli (Scalar.divsi (b - a) 1#32) 1#32, 1#32⟩ : Scf.Loop 32) = _
  rw [divsi_one]
  show (⟨a, a + (b - a) * 1#32, 1#32⟩ : Scf.Loop 32) = _
  rw [BitVec.mul_one, BitVec.add_comm, BitVec.sub_add_cancel]
theorem t7_eq (a b : BitVec 32) : k0_t7_loop a b = ⟨b, b, 1#32⟩ := by
  show (⟨a + Scalar.muli (Scalar.divsi (b - a) 1#32) 1#32, a + (b - a), 1#32⟩ : Scf.Loop 32) = _
  rw [divsi_one]
  show (⟨a + (b - a) * 1#32, a + (b - a), 1#32⟩ : Scf.Loop 32) = _
  rw [BitVec.mul_one, BitVec.add_comm, BitVec.sub_add_cancel]

theorem trips_small {a b : ℕ} (hb : b ≤ 1024) (hab : a ≤ b) : Scf.trips (BitVec.ofNat 32 a) (BitVec.ofNat 32 b) 1#32 = b - a := by
  unfold Scf.trips
  rw [WordCmp.toInt_ofNat_of_lt (by norm_num; omega), WordCmp.toInt_ofNat_of_lt (by norm_num; omega)]
  show (((b : Int) - a + 1 - 1) / 1).toNat = _
  omega

theorem t6_trips {a b : ℕ} (hb : b ≤ 1024) (hab : a ≤ b) : (k0_t6_loop (BitVec.ofNat 32 a) (BitVec.ofNat 32 b)).trips = b - a := by
  rw [t6_eq]; exact trips_small hb hab
theorem t7_trips {a b : ℕ} (hb : b ≤ 1024) : (k0_t7_loop (BitVec.ofNat 32 a) (BitVec.ofNat 32 b)).trips = 0 := by
  rw [t7_eq]; exact (trips_small hb le_rfl).trans (Nat.sub_self _)

theorem ok_small {a b : ℕ} (hb : b ≤ 1024) (hab : a ≤ b) : Scf.OK (BitVec.ofNat 32 a) (BitVec.ofNat 32 b) 1#32 := by
  refine ⟨by decide, ?_⟩
  rw [trips_small hb hab, WordCmp.toInt_ofNat_of_lt (by norm_num; omega)]
  show (a : Int) + ((b - a : ℕ) : Int) * 1 < _
  norm_num; omega

theorem iv_add {a k : ℕ} : Scf.iv (BitVec.ofNat 32 a) 1#32 k = BitVec.ofNat 32 (a + k) := by
  unfold Scf.iv; rw [BitVec.mul_one, BitVec.ofNat_add]

theorem off8_eq {a b : ℕ} (hb : b ≤ 1024) (hab : a ≤ b) (k : Fin (k0_t6_loop (BitVec.ofNat 32 a) (BitVec.ofNat 32 b)).trips) :
    k0_off8 _ _ k = ![a + k.val] := by
  have hk := lt_of_lt_of_eq k.isLt (t6_trips hb hab)
  show ![(Scf.iv (BitVec.ofNat 32 a) 1#32 k).toNat] = _
  rw [iv_add, BitVec.toNat_ofNat, Nat.mod_eq_of_lt (by omega)]

theorem chk2_of {a b : ℕ} (hb : b ≤ 1024) (hab : a ≤ b) : k0_chk2 (BitVec.ofNat 32 a) (BitVec.ofNat 32 b) := by
  refine ⟨?_, ?_, ?_, ?_⟩
  · rw [t6_eq]; exact ok_small hb hab
  · intro k x
    have hk := lt_of_lt_of_eq k.isLt (t6_trips hb hab)
    rw [off8_eq hb hab]
    fin_cases x
    show a + k.val + 1 ≤ 1024
    omega
  · rw [t7_eq]; exact ok_small hb le_rfl
  · intro k
    exact absurd (lt_of_lt_of_eq k.isLt (t7_trips hb)) (Nat.not_lt_zero _)

/-- The row of its block an id names. -/
theorem off11_eq (i : grid0.Coords) (w : BitVec 32) (r : ℕ) (hr : r < 256) (h : w.toInt = ((256 * (i 0).val : ℕ) : Int) + r) :
    k0_off11 i w = ![r, 0] := by
  have hi : (i 0).val < 125 := (i 0).isLt
  show ![(w - BitVec.ofNat 32 (i 0).val * 256#32).toNat, 0] = _
  have : w = BitVec.ofNat 32 (256 * (i 0).val + r) := by
    apply BitVec.eq_of_toInt_eq
    rw [WordCmp.toInt_ofNat_of_lt (by norm_num; omega), h]; push_cast; omega
  have e : (w - BitVec.ofNat 32 (i 0).val * 256#32).toNat = r := by
    rw [this]
    simp only [BitVec.toNat_sub, BitVec.toNat_mul, BitVec.toNat_ofNat]
    omega
  rw [e]

end Cert.KernelIdeal.Hand
end
-- ==== Proof.KernelIdealLoops.lean ====
/-
  The invariants of the loops of the kernel body.
-/
module

public import proofs.«01_k».proof.Proof.Gen.KernelIdeal.Launch
public import proofs.«01_k».proof.Proof.Gen.KernelIdeal.Loops
public import proofs.«01_k».proof.Proof.Gen.KernelIdeal.Skeleton
public import proofs.«01_k».proof.Proof.Gen.KernelIdeal.Points
public import proofs.«01_k».proof.Proof.KernelIdealWords
public import Idealize.ShloMosaic.Lib.Pipeline.FrameBody
public import Idealize.ShloMosaic.Lib.Tactic
public import Idealize.ShloMosaic.Lib.WordCmp
public import Idealize.ShloMosaic.Lib.WritesUnit
public import Idealize.ShloMosaic.Lib.Pointwise.Reshape

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev hb4 : Memref sig .tc .hbm S1024x4096 .fp8e4m3 := Memref.whole main_v2
abbrev hb8 : Memref sig .tc .hbm S1024x4096 .bf16 := Memref.whole main_v4
abbrev sc11 : Memref sig .tc .vmem S128x4096 .fp8e4m3 := Memref.whole cc0_scratch0
abbrev sc12 : Memref sig .tc .vmem S1024x4096 .bf16 := Memref.whole cc0_scratch1
abbrev sc13 : Memref sig .tc .vmem S1024x4096 .f32 := Memref.whole cc0_scratch2
abbrev sc14 : Memref sig .tc .vmem S1024x4096 .bf16 := Memref.whole cc0_scratch3
abbrev sc15 : Memref sig .tc .vmem S1024x256 .bf16 := Memref.whole cc0_scratch4
abbrev sc16 : Memref sig .tc .vmem S256x1024 .bf16 := Memref.whole cc0_scratch5
abbrev sc17 : Memref sig .tc .vmem S8x128 .i32 := Memref.whole cc0_scratch6
abbrev sc18 : Memref sig .tc .vmem S8x128 .i32 := Memref.whole cc0_scratch7
abbrev sc19 : Memref sig .tc .smem S8x128 .i32 := Memref.whole cc0_scratch8
abbrev sc20 : Memref sig .tc .smem S1024 .i32 := Memref.whole cc0_scratch9
abbrev sc21 : Memref sig .tc .smem S8x128 .i32 := Memref.whole cc0_scratch10

/-- What a memref's buffer holds. -/
abbrev Cts (c : Dev nD) {sp : Space} {S : Shape} {e : EltTy} (M : Memref sig .tc sp S e) : Type := Buf (Elt F) (M.view.loc (c : Thread nD τ))
/-- A memref's buffer, held whole at `f`. -/
abbrev pt (c : Dev nD) {sp : Space} {S : Shape} {e : EltTy} (M : Memref sig .tc sp S e) (f : Cts (F := F) c M) : sProp 𝕄 :=
  M.view.loc (c : Thread nD τ) ↦[M.view.set]{fullShare} f

/-- Gathering one row of 128 ids, a lane at a time. -/
def I2 (c : Dev nD) (arg1 : Memref sig .tc .smem S1024 .i32) (X1 : Cts (F := F) c arg1) (t : ℕ) (k : ℕ) (acc : IVec S1x128 32) : sProp 𝕄 :=
  iprop(pt c arg1 X1 ∗ ⌜∀ (j : S1x128.Idx) (u : Fin 1024), (j 1).val < k → u.val = 128 * t + (j 1).val →
    acc j = toks (arg1.view.read (Elt F) X1) u⌝)

/-- Gathering all the ids into an (8, 128) register, a row at a time. -/
def I1 (c : Dev nD) (arg1 : Memref sig .tc .smem S1024 .i32) (X1 : Cts (F := F) c arg1) (k : ℕ) (_ : Unit) : sProp 𝕄 :=
  iprop(pt c arg1 X1 ∗ ∃ f17, ⌜∀ j : S8x128.Idx, (j 0).val < k → sc17.view.read (Elt F) f17 j = toks (arg1.view.read (Elt F) X1) (lane j)⌝ ∗ pt c sc17 f17)

/-- Ranking the ids: after `k` tokens, how many of them come before each token, and how many lie below each block. -/
def I3 (c : Dev nD) (arg1 : Memref sig .tc .smem S1024 .i32) (X1 : Cts (F := F) c arg1) (k : ℕ) (acc : IVec S8x128 32 × IVec S8x128 32) : sProp 𝕄 :=
  iprop(pt c arg1 X1 ∗ ⌜∀ j : S8x128.Idx,
    acc.1 j = BitVec.ofNat 32 (TokenSort.upto (fun u => TokenSort.before (toks (arg1.view.read (Elt F) X1)) u (lane j)) k) ∧
    acc.2 j = BitVec.ofNat 32 (TokenSort.upto (fun u => BitVec.toInt (toks (arg1.view.read (Elt F) X1) u) < ((256 * (lane j).val : ℕ) : Int)) k)⌝)

/-- Placing tokens at their ranks: the first `n` tokens are in place. -/
def I5 (c : Dev nD) (g : Fin 1024 → BitVec 32) (X19 : Cts (F := F) c sc19) (n : ℕ) : sProp 𝕄 :=
  iprop(pt c sc19 X19 ∗ ∃ f20, ⌜∀ u : Fin 1024, u.val < n →
    toks (sc20.view.read (Elt F) f20) ⟨TokenSort.rank g u, TokenSort.rank_lt g u⟩ = BitVec.ofNat 32 u.val⌝ ∗ pt c sc20 f20)

/-- Element `k` of a token's row. -/
def ixD (t : Fin 1024) (k : Fin 4096) : S1024x4096.Idx := fun a => match a with | ⟨0, _⟩ => t | ⟨1, _⟩ => k

/-- Element `k` of a block's row. -/
def ixB (r : Fin 256) (k : Fin 4096) : S256x4096.Idx := fun a => match a with | ⟨0, _⟩ => r | ⟨1, _⟩ => k

/-- Element `k` of a single row. -/
def ixR (k : Fin 4096) : S1x4096.Idx := fun a => match a with | ⟨0, _⟩ => ⟨0, Nat.one_pos⟩ | ⟨1, _⟩ => k

/-- The pair of rows that holds a token's. -/
def pairOf (D : Vec F S1024x4096 .bf16) (t : Fin 1024) : Vec F S2x4096 .bf16 :=
  fun y => D (ixD ⟨2 * (t.val / 2) + (y 0).val, by have h : (y 0).val < 2 := (y 0).isLt; have := t.isLt; omega⟩ (y 1))

/-- A token's row, out of its pair, added to a row of the block. -/
def addPair (p : Vec F S2x4096 .bf16) (w : BitVec 32) (x : Vec F S1x4096 .f32) : FVec F S1x4096 .f32 :=
  k0_pay335 (k0_pay301 p) (k0_pay302 p) (even w) x

/-- One token's row of the embedding gradient added to the row of the block its id names. -/
def addRow (g : Fin 1024 → BitVec 32) (D : Vec F S1024x4096 .bf16) (b : ℕ) (t : Fin 1024) (B : Vec F S256x4096 .f32) : Vec F S256x4096 .f32 :=
  fun j => if (g t).toInt = ((256 * b + (j 0).val : ℕ) : Int)
    then addPair (pairOf D t) (BitVec.ofNat 32 t.val) (fun y => B (ixB (j 0) (y 1))) (ixR (j 1)) else B j

/-- The rows of `k` tokens added in order, from position `a` of the order. -/
def addRows (g : Fin 1024 → BitVec 32) (D : Vec F S1024x4096 .bf16) (b a : ℕ) (B : Vec F S256x4096 .f32) : ℕ → Vec F S256x4096 .f32
  | 0 => B
  | k + 1 => if h : a + k < 1024 then addRow g D b (TokenSort.order g ⟨a + k, h⟩) (addRows g D b a B k) else addRows g D b a B k

/-- Adding the rows of the block's tokens. -/
def I6 (c : Dev nD) (arg1 : Memref sig .tc .smem S1024 .i32) (arg9 : Memref sig .tc .vmem S256x4096 .f32) (X1 : Cts (F := F) c arg1)
    (X14 : Cts (F := F) c sc14) (X20 : Cts (F := F) c sc20) (b : ℕ) (B : Vec F S256x4096 .f32) (k : ℕ) (_ : BitVec 32) : sProp 𝕄 :=
  iprop(pt c arg1 X1 ∗ pt c sc14 X14 ∗ pt c sc20 X20 ∗ ∃ f9, ⌜arg9.view.read (Elt F) f9
    = addRows (toks (arg1.view.read (Elt F) X1)) (sc14.view.read (Elt F) X14) b (TokenSort.start (toks (arg1.view.read (Elt F) X1)) b) B k⌝ ∗ pt c arg9 f9)

theorem if_bit {p q : Prop} {d : Decidable p} {d' : Decidable q} (h : p ↔ q) :
    (if p then 1#32 else 0#32) = BitVec.ofNat 32 (@ite ℕ q d' 1 0) := by
  by_cases hp : p
  · rw [if_pos hp, if_pos (h.1 hp)]
  · rw [if_neg hp, if_neg (mt h.2 hp)]

/-- One element of a row read from a two-axis buffer. -/
theorem rdRow {sp : Space} {d0 d1 m : ℕ} {e : EltTy} (v : View sig .tc sp (⟨2, ![d0, d1]⟩ : Shape) e) (X : v.ty.Contents (Elt F)) {off : Fin 2 → ℕ} (h)
    (r c : ℕ) (h0 : off 0 = r) (h1 : off 1 = c) (x : (⟨2, ![1, m]⟩ : Shape).Idx)
    (j : (⟨2, ![d0, d1]⟩ : Shape).Idx) (e0 : (j 0).val = r) (e1 : (j 1).val = c + (x 1).val) :
    v.readAt (Elt F) (Rect.unit (s := (⟨2, ![d0, d1]⟩ : Shape)) off ![1, m] h).toLoadRect X x = v.read (Elt F) X j := by
  rw [View.readAt_apply]
  refine congrArg (v.read (Elt F) X) (funext (Fin.forall_fin_two.2 ⟨Fin.ext ?_, Fin.ext ?_⟩))
  · show off 0 + 1 * (x 0).val = (j 0).val
    have : (x 0).val < 1 := (x 0).isLt
    omega
  · show off 1 + 1 * (x 1).val = (j 1).val
    omega

theorem rdPair {sp : Space} {d0 d1 m : ℕ} {e : EltTy} (v : View sig .tc sp (⟨2, ![d0, d1]⟩ : Shape) e) (X : v.ty.Contents (Elt F)) {off : Fin 2 → ℕ} (h)
    (r c : ℕ) (h0 : off 0 = r) (h1 : off 1 = c) (x : (⟨2, ![2, m]⟩ : Shape).Idx)
    (j : (⟨2, ![d0, d1]⟩ : Shape).Idx) (e0 : (j 0).val = r + (x 0).val) (e1 : (j 1).val = c + (x 1).val) :
    v.readAt (Elt F) (Rect.unit (s := (⟨2, ![d0, d1]⟩ : Shape)) off ![2, m] h).toLoadRect X x = v.read (Elt F) X j := by
  rw [View.readAt_apply]
  refine congrArg (v.read (Elt F) X) (funext (Fin.forall_fin_two.2 ⟨Fin.ext ?_, Fin.ext ?_⟩))
  · show off 0 + 1 * (x 0).val = (j 0).val
    omega
  · show off 1 + 1 * (x 1).val = (j 1).val
    omega

variable (c : Dev nD) (i : grid0.Coords) (arg1 : Memref sig .tc .smem S1024 .i32) (harg1 : arg1.IsWhole) (arg2 : Memref sig .tc .vmem S1024x256 .fp8e5m2) (harg2 : arg2.IsWhole) (arg3 : Memref sig .tc .vmem S2x4x256 .f32) (harg3 : arg3.IsWhole) (arg5 : Memref sig .tc .vmem S2x512 .f32) (harg5 : arg5.IsWhole) (arg6 : Memref sig .tc .vmem S256x4096 .i8) (harg6 : arg6.IsWhole) (arg7 : Memref sig .tc .vmem S1x1x256 .f32) (harg7 : arg7.IsWhole) (arg9 : Memref sig .tc .vmem S256x4096 .f32) (harg9 : arg9.IsWhole) (arg10 : Memref sig .tc .vmem S1024x4096 .bf16) (harg10 : arg10.IsWhole)

theorem I2_step (X1 : Cts (F := F) c arg1) (k0_h1 : k0_cond1 i = 1#1) (k0_t1 : Fin k0_t1_loop.trips) (k : Fin k0_t2_loop.trips) (acc : IVec S1x128 32) :
    I2 c arg1 X1 k0_t1 k acc ⊢ wp frame (wpE defs₀ Variants.none c none) Set.univ (k0_t2_body (F := F) i arg1 harg1 arg2 harg2 arg3 harg3 hb4 (Memref.isWhole_whole _) arg5 harg5 arg6 harg6 arg7 harg7 hb8 (Memref.isWhole_whole _) arg9 harg9 arg10 harg10 sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) sc20 (Memref.isWhole_whole _) sc21 (Memref.isWhole_whole _) cc0_scratch11 cc0_scoped0 cc0_scoped1 cc0_scoped2 cc0_scoped3 cc0_scoped4 cc0_scoped5 cc0_scoped6 cc0_scoped7 k0_h1 k0_t1 k acc) (I2 c arg1 X1 k0_t1 (k.val + 1)) := by
  unfold k0_t2_body I2
  iintro ⟨H1, %h⟩
  sl_exec
  sl_step
  isplitl [H1]; · iexact H1
  ipureintro
  unfold I2_step.sl.r
  intro j u hj hu
  rw [pay4_apply]
  have e := k0_off1_eq k0_t1 k
  split_ifs with hjk
  · exact rd1 arg1.view X1 _ u (by rw [e, hu, hjk]; rfl) _
  · exact h j u (by omega) hu

theorem I1_step (X1 : Cts (F := F) c arg1) (k0_h1 : k0_cond1 i = 1#1) (k : Fin k0_t1_loop.trips) (acc : Unit) :
    I1 c arg1 X1 k acc ⊢ wp frame (wpE defs₀ Variants.none c none) Set.univ (k0_t1_body (F := F) i arg1 harg1 arg2 harg2 arg3 harg3 hb4 (Memref.isWhole_whole _) arg5 harg5 arg6 harg6 arg7 harg7 hb8 (Memref.isWhole_whole _) arg9 harg9 arg10 harg10 sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) sc20 (Memref.isWhole_whole _) sc21 (Memref.isWhole_whole _) cc0_scratch11 cc0_scoped0 cc0_scoped1 cc0_scoped2 cc0_scoped3 cc0_scoped4 cc0_scoped5 cc0_scoped6 cc0_scoped7 k0_h1 k acc) (I1 c arg1 X1 (k.val + 1)) := by
  unfold k0_t1_body I1
  iintro ⟨H1, %f17, %h, H17⟩
  iapply (Scf.wp_for_bind _ _ _ _ _ _ _ _ _ (I2 c arg1 X1 k) (I2_step c i arg1 harg1 arg2 harg2 arg3 harg3 arg5 harg5 arg6 harg6 arg7 harg7 arg9 harg9 arg10 harg10 X1 k0_h1 k)) $$ [H1]
  · unfold I2
    isplitl [H1]; · iexact H1
    ipureintro
    intro j u hj
    exact absurd hj (Nat.not_lt_zero _)
  iintro %acc2 HI
  unfold I2
  icases HI with ⟨H1, %h2⟩
  sl_exec
  sl_step
  isplitl [H1]; · iexact H1
  iexists _; isplitr [H17]; swap; · iexact H17
  ipureintro
  intro j hj
  have h0 : (j 0).val < 8 := (j 0).isLt
  have h1 : (j 1).val < 128 := (j 1).isLt
  rw [View.read_writes_cons_unit (heq := k0_off2_eq k), View.writes_nil]
  split_ifs with hc
  · have hc0 : k.val ≤ (j 0).val ∧ (j 0).val < k.val + 1 := hc 0
    unfold k0_pay5
    rw [shapeCast_id]
    refine h2 _ (lane j) ?_ ?_
    · show (j 1).val - 0 < 128
      omega
    · show 128 * (j 0).val + (j 1).val = 128 * k.val + ((j 1).val - 0)
      omega
  · refine h j ?_
    by_contra hlt
    refine hc fun a => ?_
    fin_cases a
    · show k.val ≤ (j 0).val ∧ (j 0).val < k.val + 1
      omega
    · show 0 ≤ (j 1).val ∧ (j 1).val < 0 + 128
      omega

theorem I3_step (X1 : Cts (F := F) c arg1) (k0_h1 : k0_cond1 i = 1#1) (v232 : Vec F S8x128 .i32)
    (hv : ∀ j, v232 j = toks (arg1.view.read (Elt F) X1) (lane j)) (init : IVec S8x128 32 × IVec S8x128 32)
    (k : Fin k0_t3_loop.trips) (acc : IVec S8x128 32 × IVec S8x128 32) :
    I3 c arg1 X1 k acc ⊢ wp frame (wpE defs₀ Variants.none c none) Set.univ (k0_t3_body (F := F) i arg1 harg1 arg2 harg2 arg3 harg3 hb4 (Memref.isWhole_whole _) arg5 harg5 arg6 harg6 arg7 harg7 hb8 (Memref.isWhole_whole _) arg9 harg9 arg10 harg10 sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) sc20 (Memref.isWhole_whole _) sc21 (Memref.isWhole_whole _) cc0_scratch11 cc0_scoped0 cc0_scoped1 cc0_scoped2 cc0_scoped3 cc0_scoped4 cc0_scoped5 cc0_scoped6 cc0_scoped7 k0_h1 v232 k acc) (I3 c arg1 X1 (k.val + 1)) := by
  obtain ⟨acc1, acc2⟩ := acc
  unfold k0_t3_body I3
  iintro ⟨H1, %h⟩
  sl_exec
  sl_step
  isplitl [H1]; · iexact H1
  ipureintro
  unfold I3_step.sl.r
  have hk : k.val < 1024 := Nat.lt_of_lt_of_le k.isLt k0_t3_abs.2.1
  intro j
  obtain ⟨h1, h2⟩ := h j
  simp only at h1 h2
  rw [show View.readAt (Elt F) arg1.view _ X1 _ = toks (arg1.view.read (Elt F) X1) ⟨k.val, hk⟩ from rd1 arg1.view X1 _ ⟨k.val, hk⟩ (by rw [k0_off3_eq]; rfl) _]
  refine ⟨?_, ?_⟩
  · show k0_pay8 _ _ _ _ _ = _
    rw [pay8_apply, hv, h1, TokenSort.upto, dif_pos hk, BitVec.ofNat_add]
    congr 1
    exact if_bit Iff.rfl
  · show k0_pay9 (F := F) _ _ _ = _
    rw [pay9_apply, h2, TokenSort.upto, dif_pos hk, BitVec.ofNat_add]
    congr 1
    exact if_bit Iff.rfl

theorem I5_step (g : Fin 1024 → BitVec 32) (X19 : Cts (F := F) c sc19) (hX : ∀ j, sc19.view.read (Elt F) X19 j = BitVec.ofNat 32 (TokenSort.rank g (lane j)))
    (k0_h1 : k0_cond1 i = 1#1) (k0_t4 : Fin k0_t4_loop.trips) (k : Fin k0_t5_loop.trips) (acc : Unit) :
    I5 c g X19 (128 * k0_t4.val + k.val) ⊢ wp frame (wpE defs₀ Variants.none c none) Set.univ
      (k0_t5_body (F := F) i arg1 harg1 arg2 harg2 arg3 harg3 hb4 (Memref.isWhole_whole _) arg5 harg5 arg6 harg6 arg7 harg7 hb8 (Memref.isWhole_whole _) arg9 harg9 arg10 harg10 sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) sc20 (Memref.isWhole_whole _) sc21 (Memref.isWhole_whole _) cc0_scratch11 cc0_scoped0 cc0_scoped1 cc0_scoped2 cc0_scoped3 cc0_scoped4 cc0_scoped5 cc0_scoped6 cc0_scoped7 k0_h1 k0_t4 (Scf.iv 0#32 1#32 k0_t4) k acc) (fun _ => I5 c g X19 (128 * k0_t4.val + (k.val + 1))) := by
  have hk : k.val < 128 := Nat.lt_of_lt_of_le k.isLt k0_t5_abs.2.1
  have hk4 : k0_t4.val < 8 := Nat.lt_of_lt_of_le k0_t4.isLt k0_t4_abs.2.1
  unfold k0_t5_body I5
  iintro ⟨H19, %f20, %h, H20⟩
  sl_exec
  have hr : I5_step.sl.r c i X19 k0_h1 k0_t4 k = BitVec.ofNat 32 (TokenSort.rank g ⟨128 * k0_t4.val + k.val, by omega⟩) := by
    unfold I5_step.sl.r
    rw [rd2 sc19.view X19 _ (ix2 ⟨128 * k0_t4.val + k.val, by omega⟩) (by rw [k0_off4_eq]; show k0_t4.val = (128 * k0_t4.val + k.val) / 128; omega)
      (by rw [k0_off4_eq]; show k.val = (128 * k0_t4.val + k.val) % 128; omega) _, hX, lane_ix2]
  have hb := TokenSort.rank_lt g ⟨128 * k0_t4.val + k.val, by omega⟩
  have hn : (BitVec.ofNat 32 (TokenSort.rank g ⟨128 * k0_t4.val + k.val, by omega⟩)).toNat = TokenSort.rank g ⟨128 * k0_t4.val + k.val, by omega⟩ := by
    rw [BitVec.toNat_ofNat, Nat.mod_eq_of_lt (by omega)]
  have hc : k0_chk1 i (I5_step.sl.r c i X19 k0_h1 k0_t4 k) := by
    intro _ a
    rw [hr, off5_eq, hn]
    revert a
    refine Fin.forall_fin_one.2 ?_
    show TokenSort.rank g _ + 1 ≤ 1024
    omega
  sl_exec
  sl_step
  isplitl [H19]; · iexact H19
  iexists _; isplitr [H20]; swap; · iexact H20
  ipureintro
  intro u hu
  have hv : I5_step.sl.v1836 k0_t4 k = BitVec.ofNat 32 (128 * k0_t4.val + k.val) := by
    show Scf.iv 0#32 1#32 k0_t4 * 128#32 + Scf.iv 0#32 1#32 k = _
    rw [iv_eq, iv_eq]
    apply BitVec.eq_of_toNat_eq
    simp only [BitVec.toNat_add, BitVec.toNat_mul, BitVec.toNat_ofNat]
    omega
  have ho : k0_off5 (I5_step.sl.r c i X19 k0_h1 k0_t4 k) = ![TokenSort.rank g ⟨128 * k0_t4.val + k.val, by omega⟩] := by rw [hr, off5_eq, hn]
  unfold toks
  rw [View.read_writes_cons_unit (heq := ho), View.writes_nil]
  split_ifs with hm
  · have hm0 : TokenSort.rank g ⟨128 * k0_t4.val + k.val, by omega⟩ ≤ TokenSort.rank g u ∧ TokenSort.rank g u < TokenSort.rank g ⟨128 * k0_t4.val + k.val, by omega⟩ + 1 := hm 0
    have hu' := TokenSort.rank_inj g (show TokenSort.rank g u = TokenSort.rank g ⟨128 * k0_t4.val + k.val, by omega⟩ by omega)
    rw [hv, hu']
  · refine h u ?_
    by_contra hlt
    refine hm (Fin.forall_fin_one.2 ?_)
    have hu' : u = ⟨128 * k0_t4.val + k.val, by omega⟩ := Fin.ext (by show u.val = 128 * k0_t4.val + k.val; omega)
    rw [hu']
    show TokenSort.rank g _ ≤ TokenSort.rank g _ ∧ TokenSort.rank g _ < TokenSort.rank g _ + 1
    omega

theorem I6_step (X1 : Cts (F := F) c arg1)
    (X14 : Cts (F := F) c sc14) (X20 : Cts (F := F) c sc20)
    (h20 : ∀ k, toks (sc20.view.read (Elt F) X20) k = BitVec.ofNat 32 (TokenSort.order (toks (arg1.view.read (Elt F) X1)) k).val) (B : Vec F S256x4096 .f32)
    (v203 v206 arg0 v161 v171 v172 init : BitVec 32)
    (e203 : v203 = BitVec.ofNat 32 (TokenSort.start (toks (arg1.view.read (Elt F) X1)) (i 0).val))
    (e206 : v206 = BitVec.ofNat 32 (TokenSort.start (toks (arg1.view.read (Elt F) X1)) ((i 0).val + 1)))
    (k0_hw2 : k0_chk2 v203 v206) (k : Fin (k0_t6_loop v203 v206).trips) (acc : BitVec 32) :
    I6 c arg1 arg9 X1 X14 X20 (i 0).val B k acc ⊢ wp frame (wpE defs₀ Variants.none c none) Set.univ
      (k0_t6_body (F := F) i arg1 harg1 arg2 harg2 arg3 harg3 hb4 (Memref.isWhole_whole _) arg5 harg5 arg6 harg6 arg7 harg7 hb8 (Memref.isWhole_whole _) arg9 harg9 arg10 harg10 sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) sc20 (Memref.isWhole_whole _) sc21 (Memref.isWhole_whole _) cc0_scratch11 cc0_scoped0 cc0_scoped1 cc0_scoped2 cc0_scoped3 cc0_scoped4 cc0_scoped5 cc0_scoped6 cc0_scoped7 arg0 v161 v171 v172 v203 v206 k0_hw2 k acc) (I6 c arg1 arg9 X1 X14 X20 (i 0).val B (k.val + 1)) := by
  subst e203 e206
  unfold k0_t6_body I6
  simp only [k0_part52_eq_skeleton]; unfold k0_part52_skel
  iintro ⟨H1, H14, H20, %f9, %h, H9⟩
  generalize hg : toks (arg1.view.read (Elt F) X1) = g at *
  have hb : TokenSort.start g ((i 0).val + 1) ≤ 1024 := TokenSort.start_le g _
  have hab := TokenSort.start_mono g (i 0).val
  have hk := lt_of_lt_of_eq k.isLt (t6_trips hb hab)
  have hlt : TokenSort.start g (i 0).val + k.val < 1024 := by omega
  have hrow := TokenSort.row_of g (i 0).val ⟨_, hlt⟩ (by show _ ≤ _ + _; omega) (by show _ + _ < _; omega)
  generalize hw : TokenSort.order g ⟨_, hlt⟩ = w at hrow
  have ht := w.isLt
  sl_exec
  have hr : I6_step.sl.r c i X20 g k0_hw2 k = BitVec.ofNat 32 w.val := by
    unfold I6_step.sl.r I6_step.sl.f
    rw [rd1 (off := k0_off8 _ _ k) sc20.view X20 _ ⟨_, hlt⟩ (by rw [off8_eq hb hab]; rfl) _]
    exact (h20 _).trans (by rw [hw])
  have hn : BitVec.toNat (I6_step.sl.r c i X20 g k0_hw2 k) = w.val := by
    rw [hr, BitVec.toNat_ofNat, Nat.mod_eq_of_lt (by omega)]
  have ho9 : k0_off9 (I6_step.sl.r c i X20 g k0_hw2 k) = ![w.val] := by rw [off9_eq, hn]
  have ho11 : k0_off10 (I6_step.sl.r c i X20 g k0_hw2 k) = ![2 * (w.val / 2), 0] := by rw [hr, off10_eq]
  have hc3 : k0_chk3 (I6_step.sl.r c i X20 g k0_hw2 k) := by
    refine ⟨?_, ?_⟩
    · rw [ho9]
      refine Fin.forall_fin_one.2 ?_
      show w.val + 1 ≤ 1024
      omega
    · rw [ho11]
      refine Fin.forall_fin_two.2 ⟨?_, ?_⟩
      · show 2 * (w.val / 2) + 2 ≤ 1024
        omega
      · show 0 + 4096 ≤ 4096
        omega
  sl_exec
  have hr1 : I6_step.sl.r_1 c i arg1 X1 X20 g k0_hw2 k hc3 = g w := by
    unfold I6_step.sl.r_1
    rw [rd1 (off := k0_off9 _) arg1.view X1 _ w (by rw [ho9]; rfl) _, ← hg]
    rfl
  obtain ⟨r, hr256, hgr⟩ : ∃ r : ℕ, r < 256 ∧ (g w).toInt = ((256 * (i 0).val : ℕ) : Int) + r :=
    ⟨((g w).toInt - ((256 * (i 0).val : ℕ) : Int)).toNat, by omega, by omega⟩
  have ho10 : k0_off11 i (I6_step.sl.r_1 c i arg1 X1 X20 g k0_hw2 k hc3) = ![r, 0] := by
    rw [hr1, off11_eq i _ r hr256 hgr]
  have hc4 : k0_chk4 i (I6_step.sl.r_1 c i arg1 X1 X20 g k0_hw2 k hc3) := by
    unfold k0_chk4
    rw [ho10]
    refine Fin.forall_fin_two.2 ⟨?_, ?_⟩
    · show r + 1 ≤ 256
      omega
    · show 0 + 4096 ≤ 4096
      omega
  sl_exec
  sl_step
  isplitl [H1]; · iexact H1
  isplitl [H14]; · iexact H14
  isplitl [H20]; · iexact H20
  iexists _; isplitr [H9]; swap; · iexact H9
  ipureintro
  funext j
  have hj1 : (j 1).val < 4096 := (j 1).isLt
  rw [View.read_writes_cons_unit (heq := ho10), View.writes_nil, addRows, dif_pos hlt, hw]
  unfold addRow
  have hiff : (g w).toInt = ((256 * (i 0).val + (j 0).val : ℕ) : Int) ↔ (j 0).val = r := by
    rw [hgr]; push_cast; omega
  split_ifs with hm hm' hm'
  · have hjr := hiff.1 hm'
    have hE : I6_step.sl.v253 c i X20 g k0_hw2 k = even (BitVec.ofNat 32 w.val) := by
      rw [← hr]; rfl
    have hP : sc14.view.readAt (Elt F) (Rect.unit (s := S1024x4096) (k0_off10 (I6_step.sl.r c i X20 g k0_hw2 k)) S2x4096.size (k0_off10_inb _ hc3)).toLoadRect X14
        = pairOf (sc14.view.read (Elt F) X14) w := by
      funext y
      exact rdPair (off := k0_off10 _) sc14.view X14 _ (2 * (w.val / 2)) 0 (by rw [ho11]; rfl) (by rw [ho11]; rfl) y _ rfl (Nat.zero_add _).symm
    have hV : I6_step.sl.v260 c i arg1 arg9 X1 X14 X20 arg0 f9 g k0_hw2 k hc3 hc4
        = fun y => arg9.view.read (Elt F) f9 (ixB (j 0) (y 1)) := by
      funext y
      exact rdRow (off := k0_off11 i _) arg9.view f9 _ r 0 (by rw [ho10]; rfl) (by rw [ho10]; rfl) y _ hjr (Nat.zero_add _).symm
    have hx : Rect.unitLocal (s := S256x4096) (off := ![r, 0]) (size := S1x4096.size) j hm = ixR (j 1) := by
      refine funext (Fin.forall_fin_two.2 ⟨Fin.ext ?_, Fin.ext rfl⟩)
      show (j 0).val - r = 0
      omega
    rw [← h]
    dsimp only
    rw [hE, hP, hV]
    exact congrArg (addPair (pairOf (sc14.view.read (Elt F) X14) w) (BitVec.ofNat 32 w.val) _) hx
  · have hm0 : r ≤ (j 0).val ∧ (j 0).val < r + 1 := hm 0
    exact absurd (hiff.2 (by omega)) hm'
  · have hjr := hiff.1 hm'
    refine absurd (Fin.forall_fin_two.2 ⟨?_, ?_⟩) hm
    · show r ≤ (j 0).val ∧ (j 0).val < r + 1
      omega
    · show 0 ≤ (j 1).val ∧ (j 1).val < 0 + 4096
      omega
  · rw [h]

/-- One row of 128 tokens placed. -/
theorem I4_step (g : Fin 1024 → BitVec 32) (X19 : Cts (F := F) c sc19) (hX : ∀ j, sc19.view.read (Elt F) X19 j = BitVec.ofNat 32 (TokenSort.rank g (lane j)))
    (k0_h1 : k0_cond1 i = 1#1) (k : Fin k0_t4_loop.trips) (acc : Unit) :
    I5 c g X19 (128 * k.val) ⊢ wp frame (wpE defs₀ Variants.none c none) Set.univ
      (k0_t4_body (F := F) i arg1 harg1 arg2 harg2 arg3 harg3 hb4 (Memref.isWhole_whole _) arg5 harg5 arg6 harg6 arg7 harg7 hb8 (Memref.isWhole_whole _) arg9 harg9 arg10 harg10 sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) sc20 (Memref.isWhole_whole _) sc21 (Memref.isWhole_whole _) cc0_scratch11 cc0_scoped0 cc0_scoped1 cc0_scoped2 cc0_scoped3 cc0_scoped4 cc0_scoped5 cc0_scoped6 cc0_scoped7 k0_h1 k acc) (fun _ => I5 c g X19 (128 * (k.val + 1))) := by
  unfold k0_t4_body
  iintro H
  iapply (Scf.wp_for_bind _ _ _ _ _ _ _ _ _ (fun n (_ : Unit) => I5 c g X19 (128 * k.val + n)) (I5_step c i arg1 harg1 arg2 harg2 arg3 harg3 arg5 harg5 arg6 harg6 arg7 harg7 arg9 harg9 arg10 harg10 g X19 hX k0_h1 k)) $$ [H]
  · iexact H
  iintro %acc2 H
  sl_step
  iexact H

/-- The rows of the block's tokens added to the output block, from the order and the block bounds. -/
theorem part59_run (arg0 v161 v171 v172 : BitVec 32) (X1 : Cts (F := F) c arg1) (X14 : Cts (F := F) c sc14) (X20 : Cts (F := F) c sc20)
    (X21 : Cts (F := F) c sc21) (X9 : Cts (F := F) c arg9)
    (h20 : ∀ k, toks (sc20.view.read (Elt F) X20) k = BitVec.ofNat 32 (TokenSort.order (toks (arg1.view.read (Elt F) X1)) k).val)
    (h21 : ∀ j, sc21.view.read (Elt F) X21 j = BitVec.ofNat 32 (TokenSort.start (toks (arg1.view.read (Elt F) X1)) (lane j).val)) :
    iprop(pt c arg1 X1 ∗ pt c sc14 X14 ∗ pt c sc20 X20 ∗ pt c sc21 X21 ∗ pt c arg9 X9) ⊢
      wp frame (wpE defs₀ Variants.none c none) Set.univ (k0_part59 (F := F) i arg1 harg1 arg2 harg2 arg3 harg3 hb4 (Memref.isWhole_whole _) arg5 harg5 arg6 harg6 arg7 harg7 hb8 (Memref.isWhole_whole _) arg9 harg9 arg10 harg10 sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) sc20 (Memref.isWhole_whole _) sc21 (Memref.isWhole_whole _) cc0_scratch11 cc0_scoped0 cc0_scoped1 cc0_scoped2 cc0_scoped3 cc0_scoped4 cc0_scoped5 cc0_scoped6 cc0_scoped7 arg0 v161 v171 v172)
        (fun _ => iprop(pt c arg1 X1 ∗ pt c sc14 X14 ∗ pt c sc20 X20 ∗ pt c sc21 X21 ∗ ∃ f9, ⌜arg9.view.read (Elt F) f9
    = addRows (toks (arg1.view.read (Elt F) X1)) (sc14.view.read (Elt F) X14) (i 0).val (TokenSort.start (toks (arg1.view.read (Elt F) X1)) (i 0).val)
      (arg9.view.read (Elt F) X9) (TokenSort.start (toks (arg1.view.read (Elt F) X1)) ((i 0).val + 1) - TokenSort.start (toks (arg1.view.read (Elt F) X1)) (i 0).val)⌝
      ∗ pt c arg9 f9)) := by
  have hi : (i 0).val < 125 := (i 0).isLt
  have hb : TokenSort.start (toks (arg1.view.read (Elt F) X1)) ((i 0).val + 1) ≤ 1024 := TokenSort.start_le _ _
  have hab := TokenSort.start_mono (toks (arg1.view.read (Elt F) X1)) (i 0).val
  simp only [k0_part59_eq_skeleton]; unfold k0_part59_skel
  iintro ⟨H1, H14, H20, H21, H9⟩
  sl_exec
  have e203 : part59_run.sl.r c i X21 = BitVec.ofNat 32 (TokenSort.start (toks (arg1.view.read (Elt F) X1)) (i 0).val) := by
    unfold part59_run.sl.r
    rw [rd2 sc21.view X21 _ (ix2 ⟨(i 0).val, by omega⟩) (by rw [off6_eq]; rfl) (by rw [off6_eq]; rfl) _, h21, lane_ix2]
  have e206 : part59_run.sl.r_1 c i X21 = BitVec.ofNat 32 (TokenSort.start (toks (arg1.view.read (Elt F) X1)) ((i 0).val + 1)) := by
    unfold part59_run.sl.r_1
    rw [rd2 sc21.view X21 _ (ix2 ⟨(i 0).val + 1, by omega⟩) (by rw [off7_eq]; rfl) (by rw [off7_eq]; rfl) _, h21, lane_ix2]
  have hc2 : k0_chk2 (part59_run.sl.r c i X21) (part59_run.sl.r_1 c i X21) := by
    rw [e203, e206]; exact chk2_of hb hab
  sl_exec
  iapply (Scf.wp_for_bind _ _ _ _ _ _ _ _ _ (I6 c arg1 arg9 X1 X14 X20 (i 0).val (arg9.view.read (Elt F) X9))
    (I6_step c i arg1 harg1 arg2 harg2 arg3 harg3 arg5 harg5 arg6 harg6 arg7 harg7 arg9 harg9 arg10 harg10 X1 X14 X20 h20 (arg9.view.read (Elt F) X9) _ _ arg0 v161 v171 v172 0#32 e203 e206 hc2)) $$ [H1 H14 H20 H9]
  · unfold I6
    isplitl [H1]; · iexact H1
    isplitl [H14]; · iexact H14
    isplitl [H20]; · iexact H20
    iexists _; isplitr [H9]; swap; · iexact H9
    ipureintro
    rfl
  iintro %acc HI
  have h7 : (k0_t7_loop (part59_run.sl.r c i X21) (part59_run.sl.r_1 c i X21)).trips = 0 := by rw [e203, e206]; exact t7_trips hb
  iapply (Scf.wp_for_bind _ _ _ _ _ _ _ _ _ (fun _ _ => I6 c arg1 arg9 X1 X14 X20 (i 0).val (arg9.view.read (Elt F) X9)
    (k0_t6_loop (part59_run.sl.r c i X21) (part59_run.sl.r_1 c i X21)).trips acc)
    (fun k _ => absurd (lt_of_lt_of_eq k.isLt h7) (Nat.not_lt_zero _))) $$ [HI]
  · iexact HI
  iintro %acc' HI
  unfold I6
  icases HI with ⟨H1, H14, H20, %f9, %h9, H9⟩
  sl_step
  isplitl [H1]; · iexact H1
  isplitl [H14]; · iexact H14
  isplitl [H20]; · iexact H20
  isplitl [H21]; · iexact H21
  iexists f9; isplitr [H9]; swap; · iexact H9
  ipureintro
  rw [h9]
  congr 1
  rw [e203, e206]
  exact t6_trips hb hab

end Cert.KernelIdeal.Hand
end
-- ==== Proof.KernelIdealInit.lean ====
/-
  What the first grid point sets up: the dequantized activations, the token order and the block starts.
-/
module

public import proofs.«01_k».proof.Proof.KernelIdealLoops
public import Idealize.ShloMosaic.Lib.VecWindow
public import Idealize.ShloMosaic.Lib.Ring
public import Idealize.ShloMosaic.Lib.Pipeline.Value

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The scale of row `r` of the activations. -/
def ixS (r : ℕ) (h : r < 1024) : S2x512.Idx := fun a => match a with | ⟨0, _⟩ => ⟨r / 512, by show r / 512 < 2; omega⟩ | ⟨1, _⟩ => ⟨r % 512, by show r % 512 < 512; omega⟩

/-- The dequantized activations: each code times its row's scale. -/
def HH (H : Vec F S1024x4096 .fp8e4m3) (S : Vec F S2x512 .f32) : Vec F S1024x4096 .bf16 := fun j =>
  FloatOps.mulf (FloatOps.extf .bf16 bitsLt_fp8e4m3_bf16 (H j)) (FloatOps.truncf .bf16 bitsLt_bf16_f32 (S (ixS (j 0).val (j 0).isLt)))

/-- A tile of codes times a column of scales, given as a row. -/
def tileOf (M : FVec F S128x128 .fp8e4m3) (s : FVec F S1x128 .f32) : FVec F S128x128 .bf16 :=
  shapeCast S128x128 (mulf (extf .bf16 M bitsLt_fp8e4m3_bf16)
    (truncf .bf16 (transpose S128x128 [1, 0] (broadcastTo S128x128 (shapeCast S1x128 s shapeCasts_S1x128_S1x128) broadcasts_S1x128_S128x128)
      transposes_S128x128_p1_0_S128x128) bitsLt_bf16_f32)) shapeCasts_S128x128_S128x128

theorem tileOf_apply (M : FVec F S128x128 .fp8e4m3) (s : FVec F S1x128 .f32) (x : S128x128.Idx) (y : S1x128.Idx) (hy : (y 1).val = (x 0).val) :
    tileOf M s x = FloatOps.mulf (FloatOps.extf .bf16 bitsLt_fp8e4m3_bf16 (M x)) (FloatOps.truncf .bf16 bitsLt_bf16_f32 (s y)) := by
  unfold tileOf
  rw [shapeCast_id, shapeCast_id]
  refine congrArg (fun z => FloatOps.mulf (FloatOps.extf .bf16 bitsLt_fp8e4m3_bf16 (M x)) (FloatOps.truncf .bf16 bitsLt_bf16_f32 z)) ?_
  rw [transpose_apply [1, 0] _ _ x (fun a => match a with | ⟨0, _⟩ => x 1 | ⟨1, _⟩ => x 0) (Fin.forall_fin_two.2 ⟨rfl, rfl⟩)]
  refine broadcastTo_apply _ _ _ y (Fin.forall_fin_two.2 ⟨?_, ?_⟩)
  · have : (y 0).val < 1 := (y 0).isLt
    show (y 0).val = 0
    omega
  · exact hy

variable (c : Dev nD) (i : grid0.Coords) (arg1 : Memref sig .tc .smem S1024 .i32) (harg1 : arg1.IsWhole) (arg2 : Memref sig .tc .vmem S1024x256 .fp8e5m2) (harg2 : arg2.IsWhole) (arg3 : Memref sig .tc .vmem S2x4x256 .f32) (harg3 : arg3.IsWhole) (arg5 : Memref sig .tc .vmem S2x512 .f32) (harg5 : arg5.IsWhole) (arg6 : Memref sig .tc .vmem S256x4096 .i8) (harg6 : arg6.IsWhole) (arg7 : Memref sig .tc .vmem S1x1x256 .f32) (harg7 : arg7.IsWhole) (arg9 : Memref sig .tc .vmem S256x4096 .f32) (harg9 : arg9.IsWhole) (arg10 : Memref sig .tc .vmem S1024x4096 .bf16) (harg10 : arg10.IsWhole)

/-- A DMA semaphore at zero. -/
abbrev sem0 (c : Dev nD) (s : SemLoc sig) : sProp 𝕄 := semVal ((c : Thread nD τ), s) 0

/-- One 128 by 128 tile of the dequantized activations, as the body computes it from the row block it copied in. -/
theorem tile_agree (X5 : Cts (F := F) c arg5) (X4 : Cts (F := F) c hb4) (r q a cc : ℕ) (hr : r = 512 * q + a) (L : List (View.Piece (Elt F) S128x4096 .fp8e4m3))
    (i1 : ∀ k, ![r, 0] k + S128x4096.size k ≤ S1024x4096.size k) (hs) (i2 : ∀ k, ![0, cc] k + S128x128.size k ≤ S128x4096.size k)
    (i3 : ∀ k, ![q, a] k + S1x128.size k ≤ S2x512.size k) (i4 : ∀ k, ![r, cc] k + S128x128.size k ≤ S1024x4096.size k)
    (x : S128x128.Idx) :
    tileOf (sc11.view.readCov (Val := Elt F) (⟨Rect.whole S128x4096, ReadAs.same.apply (View.read (Elt F)
        (hb4.slice (Rect.unit (s := S1024x4096) ![r, 0] S128x4096.size i1) hs).view X4)⟩ :: L)
        (Rect.unit (s := S128x4096) ![0, cc] S128x128.size i2).toLoadRect)
      (arg5.view.readAt (Elt F) (Rect.unit (s := S2x512) ![q, a] S1x128.size i3).toLoadRect X5) x
    = HH (hb4.view.read (Elt F) X4) (arg5.view.read (Elt F) X5) ((Rect.unit (s := S1024x4096) ![r, cc] S128x128.size i4).emb x) := by
  have x0 : (x 0).val < 128 := (x 0).isLt
  have ha : a + 128 ≤ 512 := i3 1
  rw [tileOf_apply _ _ x (fun a => match a with | ⟨0, _⟩ => ⟨0, Nat.one_pos⟩ | ⟨1, _⟩ => x 0) rfl]
  have eM : (sc11.view.readCov (Val := Elt F) (⟨Rect.whole S128x4096, ReadAs.same.apply (View.read (Elt F)
        (hb4.slice (Rect.unit (s := S1024x4096) ![r, 0] S128x4096.size i1) hs).view X4)⟩ :: L)
        (Rect.unit (s := S128x4096) ![0, cc] S128x128.size i2).toLoadRect) x
      = hb4.view.read (Elt F) X4 ((Rect.unit (s := S1024x4096) ![r, cc] S128x128.size i4).emb x) := by
    unfold View.readCov
    rw [View.readAt_apply, View.read_writes_cons_hit (x := fun a => match a with | ⟨0, _⟩ => x 0 | ⟨1, _⟩ => ⟨cc + (x 1).val, by
        have := i2 1; have h1 : (x 1).val < 128 := (x 1).isLt; have : cc + 128 ≤ 4096 := this; show cc + (x 1).val < 4096; omega⟩)]
    · refine congrArg (hb4.view.read (Elt F) X4) (funext (Fin.forall_fin_two.2 ⟨Fin.ext ?_, Fin.ext ?_⟩))
      · show r + 1 * (x 0).val = r + 1 * (x 0).val
        rfl
      · show 0 + 1 * (cc + (x 1).val) = cc + 1 * (x 1).val
        omega
    · refine funext (Fin.forall_fin_two.2 ⟨Fin.ext ?_, Fin.ext ?_⟩)
      · show 0 + 1 * (x 0).val = 0 + 1 * (x 0).val
        rfl
      · show 0 + 1 * (cc + (x 1).val) = cc + 1 * (x 1).val
        omega
  rw [eM]
  refine congrArg (fun z => FloatOps.mulf _ (FloatOps.truncf .bf16 bitsLt_bf16_f32 z)) ?_
  rw [View.readAt_apply]
  refine congrArg (arg5.view.read (Elt F) X5) (funext (Fin.forall_fin_two.2 ⟨Fin.ext ?_, Fin.ext ?_⟩))
  · show q + 1 * 0 = (r + 1 * (x 0).val) / 512
    omega
  · show a + 1 * (x 0).val = (r + 1 * (x 0).val) % 512
    omega

/-- One more tile, in row order, covers one more tile of the array. -/
theorem tiles_cons {L : List (View.Piece (Elt F) S1024x4096 .bf16)} {w : FVec F S128x128 .bf16} {n a b : ℕ} {inb : ∀ k, ![a, b] k + S128x128.size k ≤ S1024x4096.size k}
    (ha : a = 128 * (n / 32)) (hb : b = 128 * (n % 32))
    (hL : ∀ y : S1024x4096.Idx, (y 0).val / 128 * 32 + (y 1).val / 128 < n → ∃ p ∈ L, y ∈ p.1.set) :
    ∀ y : S1024x4096.Idx, (y 0).val / 128 * 32 + (y 1).val / 128 < n + 1 →
      ∃ p ∈ ((⟨Rect.unit (s := S1024x4096) ![a, b] S128x128.size inb, w⟩ : View.Piece (Elt F) S1024x4096 .bf16) :: L), y ∈ p.1.set := by
  intro y hy
  have h1 : (y 1).val < 4096 := (y 1).isLt
  by_cases h : (y 0).val / 128 * 32 + (y 1).val / 128 < n
  · obtain ⟨p, hp, hm⟩ := hL y h
    exact ⟨p, List.mem_cons_of_mem _ hp, hm⟩
  · refine ⟨_, List.mem_cons_self, ?_⟩
    refine (Rect.mem_set_unit (s := S1024x4096) (off := ![a, b]) (size := S128x128.size) (inb := inb) (i := y)).2 (Fin.forall_fin_two.2 ⟨?_, ?_⟩)
    · show a ≤ (y 0).val ∧ (y 0).val < a + 128
      omega
    · show b ≤ (y 1).val ∧ (y 1).val < b + 128
      omega

/-- What the first grid point has set up once its last tile, `r`, is stored: the dequantized activations, the copied gradient of the
    embeddings, the token order and the block starts. -/
structure InitDone (X1 : Cts (F := F) c arg1) (X5 : Cts (F := F) c arg5) (X4 : Cts (F := F) c hb4) (X8 : Cts (F := F) c hb8) (r : FVec F S128x128 .bf16)
    (g12 : Cts (F := F) c sc12) (g14 : Cts (F := F) c sc14) (g20 : Cts (F := F) c sc20) (g21 : Cts (F := F) c sc21) : Prop where
  tiles : ∀ y : S1024x4096.Idx, (y 0).val < 896 ∨ (y 1).val < 3968 → sc12.view.read (Elt F) g12 y = HH (hb4.view.read (Elt F) X4) (arg5.view.read (Elt F) X5) y
  last : ∀ x, r x = HH (hb4.view.read (Elt F) X4) (arg5.view.read (Elt F) X5) ((Rect.unit (s := S1024x4096) ![896, 3968] S128x128.size inb_S1024x4096_S128x128_896_3968).emb x)
  demb : sc14.view.read (Elt F) g14 = hb8.view.read (Elt F) X8
  order : ∀ k, toks (sc20.view.read (Elt F) g20) k = BitVec.ofNat 32 (TokenSort.order (toks (arg1.view.read (Elt F) X1)) k).val
  starts : ∀ j, sc21.view.read (Elt F) g21 j = BitVec.ofNat 32 (TokenSort.start (toks (arg1.view.read (Elt F) X1)) (lane j).val)

theorem part51_run (k0_h1 : k0_cond1 i = 1#1) (X1 : Cts (F := F) c arg1) (X5 : Cts (F := F) c arg5) (X4 : Cts (F := F) c hb4) (X8 : Cts (F := F) c hb8)
    (f11 : Cts (F := F) c sc11) (f12 : Cts (F := F) c sc12) (f14 : Cts (F := F) c sc14) (f17 : Cts (F := F) c sc17)
    (f18 : Cts (F := F) c sc18) (f19 : Cts (F := F) c sc19) (f20 : Cts (F := F) c sc20) (f21 : Cts (F := F) c sc21) (W : _) :
    iprop(pt c arg1 X1 ∗ pt c arg5 X5 ∗ pt c hb4 X4 ∗ pt c hb8 X8 ∗ pt c sc11 f11 ∗ pt c sc12 f12 ∗ pt c sc14 f14 ∗ pt c sc17 f17 ∗ pt c sc18 f18
      ∗ pt c sc19 f19 ∗ pt c sc20 f20 ∗ pt c sc21 f21 ∗ sem0 c (.dma 13) ∗ sem0 c (.dma 14) ∗ sem0 c (.dma 15) ∗ sem0 c (.dma 16) ∗ sem0 c (.dma 17) ∗ sem0 c (.dma 18) ∗ sem0 c (.dma 19) ∗ sem0 c (.dma 20)
      ∗ sem0 c (.dma 21) ∗ sem0 c (.dma 22) ∗ sem0 c (.dma 23) ∗ sem0 c (.dma 24) ∗ owes (c : Thread nD τ) 0 W) ⊢
      wp frame (wpE defs₀ Variants.none c none) Set.univ (k0_part51 (F := F) i arg1 harg1 arg2 harg2 arg3 harg3 hb4 (Memref.isWhole_whole _) arg5 harg5 arg6 harg6 arg7 harg7 hb8 (Memref.isWhole_whole _) arg9 harg9 arg10 harg10 sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) sc20 (Memref.isWhole_whole _) sc21 (Memref.isWhole_whole _) cc0_scratch11 cc0_scoped0 cc0_scoped1 cc0_scoped2 cc0_scoped3 cc0_scoped4 cc0_scoped5 cc0_scoped6 cc0_scoped7 k0_h1)
        (fun r => iprop(∃ g11 g12 g14 g17 g18 g19 g20 g21 W', ⌜InitDone c arg1 arg5 X1 X5 X4 X8 r g12 g14 g20 g21⌝
          ∗ pt c arg1 X1 ∗ pt c arg5 X5 ∗ pt c hb4 X4 ∗ pt c hb8 X8 ∗ pt c sc11 g11 ∗ pt c sc12 g12 ∗ pt c sc14 g14 ∗ pt c sc17 g17 ∗ pt c sc18 g18
          ∗ pt c sc19 g19 ∗ pt c sc20 g20 ∗ pt c sc21 g21 ∗ sem0 c (.dma 13) ∗ sem0 c (.dma 14) ∗ sem0 c (.dma 15) ∗ sem0 c (.dma 16) ∗ sem0 c (.dma 17) ∗ sem0 c (.dma 18) ∗ sem0 c (.dma 19) ∗ sem0 c (.dma 20) ∗ sem0 c (.dma 21) ∗ sem0 c (.dma 22) ∗ sem0 c (.dma 23) ∗ sem0 c (.dma 24) ∗ owes (c : Thread nD τ) 0 W')) := by
  simp only [k0_part51_eq_skeleton]; unfold k0_part51_skel
  iintro ⟨H1, H5, H4, H8, H11, H12, H14, H17, H18, H19, H20, H21, S13, S14, S15, S16, S17, S18, S19, S20, S21, S22, S23, S24, HW⟩
  sl_exec
  iapply (Scf.wp_for_bind _ _ _ _ _ _ _ _ _ (I1 c arg1 X1) (I1_step c i arg1 harg1 arg2 harg2 arg3 harg3 arg5 harg5 arg6 harg6 arg7 harg7 arg9 harg9 arg10 harg10 X1 k0_h1)) $$ [H1 H17]
  · unfold I1
    isplitl [H1]; · iexact H1
    iexists f17; isplitr [H17]; swap; · iexact H17
    ipureintro
    exact fun j h => absurd h (Nat.not_lt_zero _)
  iintro %acc1 HI
  unfold I1
  icases HI with ⟨H1, %g17, %h17, H17⟩
  sl_exec
  have hv : ∀ j, sc17.view.readAt (Elt F) (Rect.unit (s := S8x128) ![0, 0] S8x128.size inb_S8x128_S8x128_0_0).toLoadRect g17 j = toks (arg1.view.read (Elt F) X1) (lane j) := by
    intro j
    exact (congrFun (View.readAt_full sc17.view g17 (off := ![0, 0]) inb_S8x128_S8x128_0_0) j).trans (h17 j (j 0).isLt)
  iapply (Scf.wp_for_bind _ _ _ _ _ _ _ _ _ (I3 c arg1 X1) (I3_step c i arg1 harg1 arg2 harg2 arg3 harg3 arg5 harg5 arg6 harg6 arg7 harg7 arg9 harg9 arg10 harg10 X1 k0_h1 _ hv (k0_pay6, k0_pay7))) $$ [H1]
  · unfold I3
    isplitl [H1]; · iexact H1
    ipureintro
    intro j
    exact ⟨rfl, rfl⟩
  iintro %acc3 HI
  obtain ⟨acc31, acc32⟩ := acc3
  unfold I3
  icases HI with ⟨H1, %h3⟩
  sl_exec
  have h19 : ∀ j, sc19.view.read (Elt F) (sc19.view.writes (Elt F) sc19.view.junk [⟨Rect.whole S8x128, part51_run.sl.dma4 (F := F) g17 acc31⟩]) j
      = BitVec.ofNat 32 (TokenSort.rank (toks (arg1.view.read (Elt F) X1)) (lane j)) := by
    intro j
    unfold part51_run.sl.dma4 part51_run.sl.H17_1 part51_run.sl.v239
    rw [View.read_writes_whole]
    refine (congrFun (View.read_writes_full sc17.view g17 (off := ![0, 0]) inb_S8x128_S8x128_0_0 _ []) j).trans ?_
    rw [shapeCast_id]
    refine (h3 j).1.trans (congrArg (BitVec.ofNat 32) ?_)
    exact TokenSort.upto_before _ _
  have h21 : ∀ j, sc21.view.read (Elt F) (sc21.view.writes (Elt F) sc21.view.junk [⟨Rect.whole S8x128, part51_run.sl.dma4_1 c f18 acc32⟩]) j
      = BitVec.ofNat 32 (TokenSort.start (toks (arg1.view.read (Elt F) X1)) (lane j).val) := by
    intro j
    unfold part51_run.sl.dma4_1 part51_run.sl.H18_1 part51_run.sl.v242
    rw [View.read_writes_whole]
    refine (congrFun (View.read_writes_full sc18.view f18 (off := ![0, 0]) inb_S8x128_S8x128_0_0 _ []) j).trans ?_
    rw [shapeCast_id]
    refine (h3 j).2.trans (congrArg (BitVec.ofNat 32) ?_)
    exact TokenSort.upto_start _ _
  iapply (Scf.wp_for_bind _ _ _ _ _ _ _ _ _ (fun n (_ : Unit) => I5 c (toks (arg1.view.read (Elt F) X1)) _ (128 * n)) (I4_step c i arg1 harg1 arg2 harg2 arg3 harg3 arg5 harg5 arg6 harg6 arg7 harg7 arg9 harg9 arg10 harg10 _ _ h19 k0_h1)) $$ [H19 H20]
  · unfold I5
    isplitl [H19]; · iexact H19
    iexists _; isplitr [H20]; swap; · iexact H20
    ipureintro
    exact fun u h => absurd h (Nat.not_lt_zero _)
  iintro %acc4 HI
  unfold I5
  icases HI with ⟨H19, %g20, %h20, H20⟩
  sl_exec
  sl_step
  iexists _; iexists _; iexists _; iexists _; iexists _; iexists _; iexists _; iexists _; iexists _
  isplitr [H1 H5 H4 H8 H11 H12 H14 H17 H18 H19 H20 H21 S13 S14 S15 S16 S17 S18 S19 S20 S21 S22 S23 S24 HW]
  swap
  · isplitl [H1]; · iexact H1
    isplitl [H5]; · iexact H5
    isplitl [H4]; · iexact H4
    isplitl [H8]; · iexact H8
    isplitl [H11]; · iexact H11
    isplitl [H12]; · iexact H12
    isplitl [H14]; · iexact H14
    isplitl [H17]; · iexact H17
    isplitl [H18]; · iexact H18
    isplitl [H19]; · iexact H19
    isplitl [H20]; · iexact H20
    isplitl [H21]; · iexact H21
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S23]; · iexact S23
    isplitl [S24]; · iexact S24
    iexact HW
  ipureintro
  refine ⟨?_, ?_, ?_, ?_, h21⟩
  · intro y hy
    refine View.read_writes_apply_of_pieces _ _ _ _ ?_ y ?_
    · iterate 255 refine List.forall_mem_cons.2 ⟨fun x => tile_agree c arg5 X5 X4 _ _ _ _ (by rfl) _ _ _ _ _ (by decide) x, ?_⟩
      exact fun _ h => absurd h List.not_mem_nil
    · have h0 : (y 0).val < 1024 := (y 0).isLt
      have h1 : (y 1).val < 4096 := (y 1).isLt
      have hn : (y 0).val / 128 * 32 + (y 1).val / 128 < 255 := by omega
      clear hy h0 h1
      revert y
      iterate 255 refine tiles_cons (F := F) (by rfl) (by rfl) ?_
      exact fun _ h => absurd h (Nat.not_lt_zero _)
  · intro x
    have e : k0_pay305 (k0_pay300 (part51_run.sl.r_33 c arg5 X5) (part51_run.sl.v1824 c X4)) x
        = HH (hb4.view.read (Elt F) X4) (arg5.view.read (Elt F) X5) ((Rect.unit (s := S1024x4096) ![896, 3968] S128x128.size inb_S1024x4096_S128x128_896_3968).emb x) :=
      tile_agree c arg5 X5 X4 _ _ _ _ (by rfl) _ _ _ _ _ (by decide) x
    exact (congrFun (shapeCast_id _ shapeCasts_S128x128_S128x128) x).symm.trans e
  · exact View.read_writes_whole _ _ _
  · intro k
    have h := h20 (TokenSort.order (toks (arg1.view.read (Elt F) X1)) k) (TokenSort.order (toks (arg1.view.read (Elt F) X1)) k).isLt
    rw [← h]
    exact congrArg _ (Fin.ext (TokenSort.rank_order _ k).symm)

end Cert.KernelIdeal.Hand
end
-- ==== Proof.KernelIdealBody.lean ====
/-
  The body at a grid point.
-/
module

public import proofs.«01_k».proof.Proof.KernelIdealInit
public import Idealize.ShloMosaic.Lib.VecWindow
public import Idealize.ShloMosaic.Lib.Ring
public import Idealize.ShloMosaic.Lib.Pipeline.Value

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The scale of an element of the block of logit gradients. -/
def ixL (r v : ℕ) (h : r < 1024) (hv : v < 256) : S2x4x256.Idx := fun a => match a with
  | ⟨0, _⟩ => ⟨r / 512, by show r / 512 < 2; omega⟩ | ⟨1, _⟩ => ⟨r % 512 / 128, by show r % 512 / 128 < 4; omega⟩ | ⟨2, _⟩ => ⟨v, hv⟩

/-- The dequantized block of logit gradients. -/
def DL (C : Vec F S1024x256 .fp8e5m2) (S : Vec F S2x4x256 .f32) : Vec F S1024x256 .bf16 := fun j =>
  FloatOps.mulf (FloatOps.extf .bf16 bitsLt_fp8e5m2_bf16 (C j)) (FloatOps.truncf .bf16 bitsLt_bf16_f32 (S (ixL (j 0).val (j 1).val (j 0).isLt (j 1).isLt)))

/-- The same block with its axes exchanged. -/
def DLT (C : Vec F S1024x256 .fp8e5m2) (S : Vec F S2x4x256 .f32) : Vec F S256x1024 .bf16 := fun j =>
  DL C S (fun a => match a with | ⟨0, _⟩ => j 1 | ⟨1, _⟩ => j 0)

/-- A block of 128 rows of codes times the block's row of scales. -/
def dlOf (M : FVec F S128x256 .fp8e5m2) (s : FVec F S1x1x256 .f32) : FVec F S128x256 .bf16 :=
  mulf (extf .bf16 (shapeCast S128x256 M shapeCasts_S128x256_S128x256) bitsLt_fp8e5m2_bf16)
    (broadcastTo S128x256 (truncf .bf16 (shapeCast S1x256 s shapeCasts_S1x1x256_S1x256) bitsLt_bf16_f32) broadcasts_S1x256_S128x256)

theorem dlOf_apply (M : FVec F S128x256 .fp8e5m2) (s : FVec F S1x1x256 .f32) (x : S128x256.Idx) (y : S1x1x256.Idx) (hy : (y 2).val = (x 1).val) :
    dlOf M s x = FloatOps.mulf (FloatOps.extf .bf16 bitsLt_fp8e5m2_bf16 (M x)) (FloatOps.truncf .bf16 bitsLt_bf16_f32 (s y)) := by
  have y0 : (y 0).val < 1 := (y 0).isLt
  have y1 : (y 1).val < 1 := (y 1).isLt
  have x1 : (x 1).val < 256 := (x 1).isLt
  unfold dlOf
  rw [shapeCast_id]
  refine congrArg (fun z => FloatOps.mulf (FloatOps.extf .bf16 bitsLt_fp8e5m2_bf16 (M x)) z) ?_
  refine (broadcastTo_apply (s := S1x256) _ broadcasts_S1x256_S128x256 x (fun a => match a with | ⟨0, _⟩ => ⟨0, Nat.one_pos⟩ | ⟨1, _⟩ => x 1) (Fin.forall_fin_two.2 ⟨rfl, rfl⟩)).trans ?_
  refine congrArg (fun z => FloatOps.truncf .bf16 bitsLt_bf16_f32 z) ?_
  refine shapeCast_apply s shapeCasts_S1x1x256_S1x256 _ y ?_
  refine (Shape.rowMajor_val_three (d := ![1, 1, 256]) y).trans (Eq.trans ?_ (Shape.rowMajor_val_two (d := ![1, 256]) _).symm)
  show ((y 0).val * 1 + (y 1).val) * 256 + (y 2).val = 0 * 256 + (x 1).val
  omega

variable (c : Dev nD) (i : grid0.Coords) (arg1 : Memref sig .tc .smem S1024 .i32) (harg1 : arg1.IsWhole) (arg2 : Memref sig .tc .vmem S1024x256 .fp8e5m2) (harg2 : arg2.IsWhole) (arg3 : Memref sig .tc .vmem S2x4x256 .f32) (harg3 : arg3.IsWhole) (arg5 : Memref sig .tc .vmem S2x512 .f32) (harg5 : arg5.IsWhole) (arg6 : Memref sig .tc .vmem S256x4096 .i8) (harg6 : arg6.IsWhole) (arg7 : Memref sig .tc .vmem S1x1x256 .f32) (harg7 : arg7.IsWhole) (arg9 : Memref sig .tc .vmem S256x4096 .f32) (harg9 : arg9.IsWhole) (arg10 : Memref sig .tc .vmem S1024x4096 .bf16) (harg10 : arg10.IsWhole)

/-- One block of 128 rows of the dequantized logit gradients. -/
theorem dl_agree (X2 : Cts (F := F) c arg2) (X3 : Cts (F := F) c arg3) (r q a : ℕ) (hr : r = 512 * q + 128 * a)
    (i1 : ∀ k, ![r, 0] k + S128x256.size k ≤ S1024x256.size k) (i2 : ∀ k, ![q, a, 0] k + S1x1x256.size k ≤ S2x4x256.size k) (ha : a < 4)
    (x : S128x256.Idx) :
    shapeCast S128x256 (dlOf (arg2.view.readAt (Elt F) (Rect.unit (s := S1024x256) ![r, 0] S128x256.size i1).toLoadRect X2)
      (arg3.view.readAt (Elt F) (Rect.unit (s := S2x4x256) ![q, a, 0] S1x1x256.size i2).toLoadRect X3)) shapeCasts_S128x256_S128x256 x
    = DL (arg2.view.read (Elt F) X2) (arg3.view.read (Elt F) X3) ((Rect.unit (s := S1024x256) ![r, 0] S128x256.size i1).emb x) := by
  have x0 : (x 0).val < 128 := (x 0).isLt
  rw [shapeCast_id, dlOf_apply _ _ x (fun k => match k with | ⟨0, _⟩ => ⟨0, Nat.one_pos⟩ | ⟨1, _⟩ => ⟨0, Nat.one_pos⟩ | ⟨2, _⟩ => x 1) rfl]
  unfold DL
  refine congrArg₂ (fun u w => FloatOps.mulf (FloatOps.extf .bf16 bitsLt_fp8e5m2_bf16 u) (FloatOps.truncf .bf16 bitsLt_bf16_f32 w)) rfl ?_
  refine congrArg (arg3.view.read (Elt F) X3) (funext fun k => Fin.ext ?_)
  match k with
  | ⟨0, _⟩ => show q + 1 * 0 = (r + 1 * (x 0).val) / 512; omega
  | ⟨1, _⟩ => show a + 1 * 0 = (r + 1 * (x 0).val) % 512 / 128; omega
  | ⟨2, _⟩ => rfl

/-- The same block with its axes exchanged. -/
theorem dlt_agree (X2 : Cts (F := F) c arg2) (X3 : Cts (F := F) c arg3) (r q a : ℕ) (hr : r = 512 * q + 128 * a)
    (i1 : ∀ k, ![r, 0] k + S128x256.size k ≤ S1024x256.size k) (i2 : ∀ k, ![q, a, 0] k + S1x1x256.size k ≤ S2x4x256.size k) (ha : a < 4)
    (i3 : ∀ k, ![0, r] k + S256x128.size k ≤ S256x1024.size k) (x : S256x128.Idx) :
    shapeCast S256x128 (transpose S256x128 [1, 0] (dlOf (arg2.view.readAt (Elt F) (Rect.unit (s := S1024x256) ![r, 0] S128x256.size i1).toLoadRect X2)
      (arg3.view.readAt (Elt F) (Rect.unit (s := S2x4x256) ![q, a, 0] S1x1x256.size i2).toLoadRect X3)) transposes_S128x256_p1_0_S256x128) shapeCasts_S256x128_S256x128 x
    = DLT (arg2.view.read (Elt F) X2) (arg3.view.read (Elt F) X3) ((Rect.unit (s := S256x1024) ![0, r] S256x128.size i3).emb x) := by
  rw [shapeCast_id, transpose_apply [1, 0] _ _ x (fun k => match k with | ⟨0, _⟩ => x 1 | ⟨1, _⟩ => x 0) (Fin.forall_fin_two.2 ⟨rfl, rfl⟩)]
  have h := dl_agree c arg2 arg3 X2 X3 r q a hr i1 i2 ha (fun k => match k with | ⟨0, _⟩ => x 1 | ⟨1, _⟩ => x 0)
  rw [shapeCast_id] at h
  refine h.trans ?_
  unfold DLT
  refine congrArg (DL (arg2.view.read (Elt F) X2) (arg3.view.read (Elt F) X3)) (funext fun k => ?_)
  match k with
  | ⟨0, _⟩ => rfl
  | ⟨1, _⟩ => rfl

/-- What the kernel keeps between grid points: the dequantized activations, the gradient of the embeddings, the token order and the
    block starts. -/
structure Kept (X1 : Cts (F := F) c arg1) (X5 : Cts (F := F) c arg5) (X4 : Cts (F := F) c hb4) (X8 : Cts (F := F) c hb8)
    (g12 : Cts (F := F) c sc12) (g14 : Cts (F := F) c sc14) (g20 : Cts (F := F) c sc20) (g21 : Cts (F := F) c sc21) : Prop where
  hh : sc12.view.read (Elt F) g12 = HH (hb4.view.read (Elt F) X4) (arg5.view.read (Elt F) X5)
  demb : sc14.view.read (Elt F) g14 = hb8.view.read (Elt F) X8
  order : ∀ k, toks (sc20.view.read (Elt F) g20) k = BitVec.ofNat 32 (TokenSort.order (toks (arg1.view.read (Elt F) X1)) k).val
  starts : ∀ j, sc21.view.read (Elt F) g21 j = BitVec.ofNat 32 (TokenSort.start (toks (arg1.view.read (Elt F) X1)) (lane j).val)

/-- A program runs to the post of its first part, then on from there. -/
theorem wp_seq {β γ : Type} (p : Prog (TpuEff nD τ sig (Elt F) Λ₀ .tc) β) (k : β → Prog (TpuEff nD τ sig (Elt F) Λ₀ .tc) γ) (P : β → sProp 𝕄) (Q : γ → sProp 𝕄) :
    wp frame (wpE defs₀ Variants.none c none) Set.univ p P ⊢ iprop((∀ a, P a -∗ wp frame (wpE defs₀ Variants.none c none) Set.univ (k a) Q)
      -∗ wp frame (wpE defs₀ Variants.none c none) Set.univ (p >>= k) Q) := by
  rw [wp_bind]
  exact wp_wand _ _ _

theorem body_run (A : FVec F S1024x4096 .f32) (X1 : Cts (F := F) c arg1) (X2 : Cts (F := F) c arg2) (X3 : Cts (F := F) c arg3) (X5 : Cts (F := F) c arg5) (X6 : Cts (F := F) c arg6) (X7 : Cts (F := F) c arg7)
    (X4 : Cts (F := F) c hb4) (X8 : Cts (F := F) c hb8) (f9 : Cts (F := F) c arg9) (f10 : Cts (F := F) c arg10)
    (f11 : Cts (F := F) c sc11) (f12 : Cts (F := F) c sc12) (f13 : Cts (F := F) c sc13) (f14 : Cts (F := F) c sc14) (f15 : Cts (F := F) c sc15) (f16 : Cts (F := F) c sc16) (f17 : Cts (F := F) c sc17)
    (f18 : Cts (F := F) c sc18) (f19 : Cts (F := F) c sc19) (f20 : Cts (F := F) c sc20) (f21 : Cts (F := F) c sc21) (W : _)
    (hA : k0_cond1 i = 1#1 → A = k0_pay306)
    (hK : ¬ k0_cond1 i = 1#1 → Kept c arg1 arg5 X1 X5 X4 X8 f12 f14 f20 f21 ∧ sc13.view.read (Elt F) f13 = A) :
    iprop(pt c arg1 X1 ∗ pt c arg2 X2 ∗ pt c arg3 X3 ∗ pt c arg5 X5 ∗ pt c arg6 X6 ∗ pt c arg7 X7 ∗ pt c hb4 X4 ∗ pt c hb8 X8 ∗ pt c arg9 f9 ∗ pt c arg10 f10
      ∗ pt c sc11 f11 ∗ pt c sc12 f12 ∗ pt c sc13 f13 ∗ pt c sc14 f14 ∗ pt c sc15 f15 ∗ pt c sc16 f16 ∗ pt c sc17 f17 ∗ pt c sc18 f18 ∗ pt c sc19 f19 ∗ pt c sc20 f20 ∗ pt c sc21 f21
      ∗ sem0 c (.dma 13) ∗ sem0 c (.dma 14) ∗ sem0 c (.dma 15) ∗ sem0 c (.dma 16) ∗ sem0 c (.dma 17) ∗ sem0 c (.dma 18) ∗ sem0 c (.dma 19) ∗ sem0 c (.dma 20) ∗ sem0 c (.dma 21) ∗ sem0 c (.dma 22) ∗ sem0 c (.dma 23) ∗ sem0 c (.dma 24) ∗ owes (c : Thread nD τ) 0 W) ⊢
      wp frame (wpE defs₀ Variants.none c none) Set.univ (cc0__kernel (F := F) i arg1 harg1 arg2 harg2 arg3 harg3 hb4 (Memref.isWhole_whole _) arg5 harg5 arg6 harg6 arg7 harg7 hb8 (Memref.isWhole_whole _) arg9 harg9 arg10 harg10 sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) sc20 (Memref.isWhole_whole _) sc21 (Memref.isWhole_whole _) cc0_scratch11 cc0_scoped0 cc0_scoped1 cc0_scoped2 cc0_scoped3 cc0_scoped4 cc0_scoped5 cc0_scoped6 cc0_scoped7)
        (fun _ => iprop(∃ g9 g10 g11 g12 g13 g14 g15 g16 g17 g18 g19 g20 g21 W', ⌜Kept c arg1 arg5 X1 X5 X4 X8 g12 g14 g20 g21
            ∧ sc13.view.read (Elt F) g13 = k0_pay332 (arg7.view.read (Elt F) X7) (arg6.view.read (Elt F) X6) A (DL (arg2.view.read (Elt F) X2) (arg3.view.read (Elt F) X3))
            ∧ arg9.view.read (Elt F) g9 = addRows (toks (arg1.view.read (Elt F) X1)) (hb8.view.read (Elt F) X8) (i 0).val (TokenSort.start (toks (arg1.view.read (Elt F) X1)) (i 0).val)
                (k0_pay334 (DLT (arg2.view.read (Elt F) X2) (arg3.view.read (Elt F) X3)) (HH (hb4.view.read (Elt F) X4) (arg5.view.read (Elt F) X5)))
                (TokenSort.start (toks (arg1.view.read (Elt F) X1)) ((i 0).val + 1) - TokenSort.start (toks (arg1.view.read (Elt F) X1)) (i 0).val)
            ∧ (k0_cond2 i = 1#1 → arg10.view.read (Elt F) g10 = k0_pay1 (sc13.view.read (Elt F) g13))
            ∧ (¬ k0_cond2 i = 1#1 → g10 = f10)⌝
          ∗ pt c arg1 X1 ∗ pt c arg2 X2 ∗ pt c arg3 X3 ∗ pt c arg5 X5 ∗ pt c arg6 X6 ∗ pt c arg7 X7 ∗ pt c hb4 X4 ∗ pt c hb8 X8 ∗ pt c arg9 g9 ∗ pt c arg10 g10
          ∗ pt c sc11 g11 ∗ pt c sc12 g12 ∗ pt c sc13 g13 ∗ pt c sc14 g14 ∗ pt c sc15 g15 ∗ pt c sc16 g16 ∗ pt c sc17 g17 ∗ pt c sc18 g18 ∗ pt c sc19 g19 ∗ pt c sc20 g20 ∗ pt c sc21 g21
          ∗ sem0 c (.dma 13) ∗ sem0 c (.dma 14) ∗ sem0 c (.dma 15) ∗ sem0 c (.dma 16) ∗ sem0 c (.dma 17) ∗ sem0 c (.dma 18) ∗ sem0 c (.dma 19) ∗ sem0 c (.dma 20) ∗ sem0 c (.dma 21) ∗ sem0 c (.dma 22) ∗ sem0 c (.dma 23) ∗ sem0 c (.dma 24) ∗ owes (c : Thread nD τ) 0 W')) := by
  simp only [cc0__kernel_eq_skeleton]; unfold cc0__kernel_skel
  iintro ⟨H1, H2, H3, H5, H6, H7, H4, H8, H9, H10, H11, H12, H13, H14, H15, H16, H17, H18, H19, H20, H21, S13, S14, S15, S16, S17, S18, S19, S20, S21, S22, S23, S24, HW⟩
  by_cases k0_h1 : k0_cond1 i = 1#1
  · have hcut := part51_run c i arg1 harg1 arg2 harg2 arg3 harg3 arg5 harg5 arg6 harg6 arg7 harg7 arg9 harg9 arg10 harg10 k0_h1 X1 X5 X4 X8 f11 f12 f14 f17 f18 f19 f20 f21 W
    set_option sl_exec.stopBefore "k0_part59" in sl_exec_parts
    have e16 : body_run.sl.v141 c arg2 arg3 X2 X3 = DLT (arg2.view.read (Elt F) X2) (arg3.view.read (Elt F) X3) := by
      unfold body_run.sl.v141 View.readCov
      rw [View.readAt_full]
      funext y
      refine View.read_writes_apply_of_pieces _ _ _ _ ?_ y (View.cover_of_tiledL (s := S256x1024) _ S256x128.size (by sl_kernel_rfl) y)
      iterate 8 refine List.forall_mem_cons.2 ⟨fun x => dlt_agree c arg2 arg3 X2 X3 _ _ _ (by rfl) _ _ (by decide) (by decide) x, ?_⟩
      exact fun _ h => absurd h List.not_mem_nil
    have e15 : body_run.sl.v135 c arg2 arg3 X2 X3 = DL (arg2.view.read (Elt F) X2) (arg3.view.read (Elt F) X3) := by
      unfold body_run.sl.v135 View.readCov
      rw [View.readAt_full]
      funext y
      refine View.read_writes_apply_of_pieces _ _ _ _ ?_ y (View.cover_of_tiledL (s := S1024x256) _ S128x256.size (by sl_kernel_rfl) y)
      iterate 8 refine List.forall_mem_cons.2 ⟨fun x => dl_agree c arg2 arg3 X2 X3 _ _ _ (by rfl) _ _ (by decide) x, ?_⟩
      exact fun _ h => absurd h List.not_mem_nil
    have e12 : sc12.view.read (Elt F) (sc12.view.writes (Elt F) g12k0_part51_1 (body_run.sl.Hk0_part51_6_1 k0_part51_r)) = HH (hb4.view.read (Elt F) X4) (arg5.view.read (Elt F) X5) := by
      funext y
      unfold body_run.sl.Hk0_part51_6_1
      have y0 : (y 0).val < 1024 := (y 0).isLt
      have y1 : (y 1).val < 4096 := (y 1).isLt
      rw [View.read_writes_cons_unit (heq := rfl), View.writes_nil]
      split_ifs with hm
      · have hm0 : 896 ≤ (y 0).val ∧ (y 0).val < 896 + 128 := hm 0
        have hm1 : 3968 ≤ (y 1).val ∧ (y 1).val < 3968 + 128 := hm 1
        refine (congrFun (shapeCast_id k0_part51_r shapeCasts_S128x128_S128x128) _).trans ((hk0_part51_0.last _).trans ?_)
        refine congrArg (HH (hb4.view.read (Elt F) X4) (arg5.view.read (Elt F) X5)) (funext fun k => Fin.ext ?_)
        match k with
        | ⟨0, _⟩ => show 896 + 1 * ((y 0).val - 896) = (y 0).val; omega
        | ⟨1, _⟩ => show 3968 + 1 * ((y 1).val - 3968) = (y 1).val; omega
      · refine hk0_part51_0.tiles y ?_
        by_contra hc
        refine hm (Fin.forall_fin_two.2 ⟨?_, ?_⟩)
        · show 896 ≤ (y 0).val ∧ (y 0).val < 896 + 128
          omega
        · show 3968 ≤ (y 1).val ∧ (y 1).val < 3968 + 128
          omega
    have kept := Kept.mk (c := c) (arg1 := arg1) (arg5 := arg5) (X1 := X1) (X5 := X5) (X4 := X4) (X8 := X8) e12 hk0_part51_0.demb hk0_part51_0.order hk0_part51_0.starts
    have e13 : sc13.view.read (Elt F) (sc13.view.writes (Elt F) f13 (⟨Rect.unit ![0, 0] S1024x4096.size inb_S1024x4096_S1024x4096_0_0,
          k0_pay333 (body_run.sl.r_3 c arg2 arg3 arg6 arg7 X2 X3 X6 X7)⟩ :: body_run.sl.H13_1))
        = k0_pay332 (arg7.view.read (Elt F) X7) (arg6.view.read (Elt F) X6) A (DL (arg2.view.read (Elt F) X2) (arg3.view.read (Elt F) X3)) := by
      refine (View.read_writes_full _ _ _ _ _).trans ((shapeCast_id _ shapeCasts_S1024x4096_S1024x4096).trans ?_)
      unfold body_run.sl.r_3
      rw [View.readAt_full, View.readAt_full, e15, hA k0_h1]
      unfold body_run.sl.v134 body_run.sl.H13_1
      rw [View.readCov_full]
    ihave Hc := (part59_run c i arg1 harg1 arg2 harg2 arg3 harg3 arg5 harg5 arg6 harg6 arg7 harg7 arg9 harg9 arg10 harg10 (BitVec.ofNat 32 (i 0).val) (body_run.sl.v161 i) (body_run.sl.v171 i) (body_run.sl.v172 i) X1 g14k0_part51_2 g20k0_part51_6 g21k0_part51_7 _
      hk0_part51_0.order hk0_part51_0.starts) $$ [Hk0_part51_1 Hk0_part51_7 Hk0_part51_11 Hk0_part51_12 H9]
    · isplitl [Hk0_part51_1]; · iexact Hk0_part51_1
      isplitl [Hk0_part51_7]; · iexact Hk0_part51_7
      isplitl [Hk0_part51_11]; · iexact Hk0_part51_11
      isplitl [Hk0_part51_12]; · iexact Hk0_part51_12
      iexact H9
    iapply (wp_seq c _ _ _ _) $$ Hc
    iintro %_ ⟨H1, H14, H20, H21, %g9, %h9, H9⟩
    have e9 := h9
    rw [hk0_part51_0.demb, View.read_writes_full, View.readAt_full, e12, e16] at e9
    by_cases k0_h2 : k0_cond2 i = 1#1
    · sl_exec
      sl_step
      iexists _; iexists _; iexists _; iexists _; iexists _; iexists _; iexists _; iexists _; iexists _; iexists _; iexists _; iexists _; iexists _; iexists _
      isplitr [H1 H2 H3 Hk0_part51_2 H6 H7 Hk0_part51_3 Hk0_part51_4 H9 H10 Hk0_part51_5 Hk0_part51_6 H13 H14 H15 H16 Hk0_part51_8 Hk0_part51_9 Hk0_part51_10 H20 H21 Hk0_part51_13 Hk0_part51_14 Hk0_part51_15 Hk0_part51_16 Hk0_part51_17 Hk0_part51_18 Hk0_part51_19 Hk0_part51_20 Hk0_part51_21 Hk0_part51_22 Hk0_part51_23 Hk0_part51_24 Hk0_part51_25]
      swap
      · isplitl [H1]; · iexact H1
        isplitl [H2]; · iexact H2
        isplitl [H3]; · iexact H3
        isplitl [Hk0_part51_2]; · iexact Hk0_part51_2
        isplitl [H6]; · iexact H6
        isplitl [H7]; · iexact H7
        isplitl [Hk0_part51_3]; · iexact Hk0_part51_3
        isplitl [Hk0_part51_4]; · iexact Hk0_part51_4
        isplitl [H9]; · iexact H9
        isplitl [H10]; · iexact H10
        isplitl [Hk0_part51_5]; · iexact Hk0_part51_5
        isplitl [Hk0_part51_6]; · iexact Hk0_part51_6
        isplitl [H13]; · iexact H13
        isplitl [H14]; · iexact H14
        isplitl [H15]; · iexact H15
        isplitl [H16]; · iexact H16
        isplitl [Hk0_part51_8]; · iexact Hk0_part51_8
        isplitl [Hk0_part51_9]; · iexact Hk0_part51_9
        isplitl [Hk0_part51_10]; · iexact Hk0_part51_10
        isplitl [H20]; · iexact H20
        isplitl [H21]; · iexact H21
        isplitl [Hk0_part51_13]; · iexact Hk0_part51_13
        isplitl [Hk0_part51_14]; · iexact Hk0_part51_14
        isplitl [Hk0_part51_15]; · iexact Hk0_part51_15
        isplitl [Hk0_part51_16]; · iexact Hk0_part51_16
        isplitl [Hk0_part51_17]; · iexact Hk0_part51_17
        isplitl [Hk0_part51_18]; · iexact Hk0_part51_18
        isplitl [Hk0_part51_19]; · iexact Hk0_part51_19
        isplitl [Hk0_part51_20]; · iexact Hk0_part51_20
        isplitl [Hk0_part51_21]; · iexact Hk0_part51_21
        isplitl [Hk0_part51_22]; · iexact Hk0_part51_22
        isplitl [Hk0_part51_23]; · iexact Hk0_part51_23
        isplitl [Hk0_part51_24]; · iexact Hk0_part51_24
        iexact Hk0_part51_25
      ipureintro
      refine ⟨kept, e13, e9, fun _ => ?_, fun h => absurd k0_h2 h⟩
      refine (View.read_writes_full _ _ _ _ _).trans ?_
      rw [e13]
      refine congrArg k0_pay1 (Eq.trans ?_ e13)
      unfold body_run.sl.v217 View.readCov
      exact (View.readAt_full _ _ _).trans ((View.read_writes_full _ _ _ _ _).trans (View.read_writes_full (s := S1024x4096) sc13.view f13 inb_S1024x4096_S1024x4096_0_0 _ _).symm)
    · sl_exec
      sl_step
      iexists _; iexists _; iexists _; iexists _; iexists _; iexists _; iexists _; iexists _; iexists _; iexists _; iexists _; iexists _; iexists _; iexists _
      isplitr [H1 H2 H3 Hk0_part51_2 H6 H7 Hk0_part51_3 Hk0_part51_4 H9 H10 Hk0_part51_5 Hk0_part51_6 H13 H14 H15 H16 Hk0_part51_8 Hk0_part51_9 Hk0_part51_10 H20 H21 Hk0_part51_13 Hk0_part51_14 Hk0_part51_15 Hk0_part51_16 Hk0_part51_17 Hk0_part51_18 Hk0_part51_19 Hk0_part51_20 Hk0_part51_21 Hk0_part51_22 Hk0_part51_23 Hk0_part51_24 Hk0_part51_25]
      swap
      · isplitl [H1]; · iexact H1
        isplitl [H2]; · iexact H2
        isplitl [H3]; · iexact H3
        isplitl [Hk0_part51_2]; · iexact Hk0_part51_2
        isplitl [H6]; · iexact H6
        isplitl [H7]; · iexact H7
        isplitl [Hk0_part51_3]; · iexact Hk0_part51_3
        isplitl [Hk0_part51_4]; · iexact Hk0_part51_4
        isplitl [H9]; · iexact H9
        isplitl [H10]; · iexact H10
        isplitl [Hk0_part51_5]; · iexact Hk0_part51_5
        isplitl [Hk0_part51_6]; · iexact Hk0_part51_6
        isplitl [H13]; · iexact H13
        isplitl [H14]; · iexact H14
        isplitl [H15]; · iexact H15
        isplitl [H16]; · iexact H16
        isplitl [Hk0_part51_8]; · iexact Hk0_part51_8
        isplitl [Hk0_part51_9]; · iexact Hk0_part51_9
        isplitl [Hk0_part51_10]; · iexact Hk0_part51_10
        isplitl [H20]; · iexact H20
        isplitl [H21]; · iexact H21
        isplitl [Hk0_part51_13]; · iexact Hk0_part51_13
        isplitl [Hk0_part51_14]; · iexact Hk0_part51_14
        isplitl [Hk0_part51_15]; · iexact Hk0_part51_15
        isplitl [Hk0_part51_16]; · iexact Hk0_part51_16
        isplitl [Hk0_part51_17]; · iexact Hk0_part51_17
        isplitl [Hk0_part51_18]; · iexact Hk0_part51_18
        isplitl [Hk0_part51_19]; · iexact Hk0_part51_19
        isplitl [Hk0_part51_20]; · iexact Hk0_part51_20
        isplitl [Hk0_part51_21]; · iexact Hk0_part51_21
        isplitl [Hk0_part51_22]; · iexact Hk0_part51_22
        isplitl [Hk0_part51_23]; · iexact Hk0_part51_23
        isplitl [Hk0_part51_24]; · iexact Hk0_part51_24
        iexact Hk0_part51_25
      ipureintro
      exact ⟨kept, e13, e9, fun h => absurd h k0_h2, fun _ => rfl⟩
  · obtain ⟨kept, h13⟩ := hK k0_h1
    set_option sl_exec.stopBefore "k0_part59" in sl_exec_parts
    have e16 : body_run.sl.v141_1 c arg2 arg3 X2 X3 = DLT (arg2.view.read (Elt F) X2) (arg3.view.read (Elt F) X3) := by
      unfold body_run.sl.v141_1 View.readCov
      rw [View.readAt_full]
      funext y
      refine View.read_writes_apply_of_pieces _ _ _ _ ?_ y (View.cover_of_tiledL (s := S256x1024) _ S256x128.size (by sl_kernel_rfl) y)
      iterate 8 refine List.forall_mem_cons.2 ⟨fun x => dlt_agree c arg2 arg3 X2 X3 _ _ _ (by rfl) _ _ (by decide) (by decide) x, ?_⟩
      exact fun _ h => absurd h List.not_mem_nil
    have e15 : body_run.sl.v135_1 c arg2 arg3 X2 X3 = DL (arg2.view.read (Elt F) X2) (arg3.view.read (Elt F) X3) := by
      unfold body_run.sl.v135_1 View.readCov
      rw [View.readAt_full]
      funext y
      refine View.read_writes_apply_of_pieces _ _ _ _ ?_ y (View.cover_of_tiledL (s := S1024x256) _ S128x256.size (by sl_kernel_rfl) y)
      iterate 8 refine List.forall_mem_cons.2 ⟨fun x => dl_agree c arg2 arg3 X2 X3 _ _ _ (by rfl) _ _ (by decide) x, ?_⟩
      exact fun _ h => absurd h List.not_mem_nil
    have e13 : sc13.view.read (Elt F) (sc13.view.writes (Elt F) f13 [⟨Rect.unit ![0, 0] S1024x4096.size inb_S1024x4096_S1024x4096_0_0,
          k0_pay333 (body_run.sl.r_7 c arg2 arg3 arg6 arg7 X2 X3 X6 X7 f13)⟩])
        = k0_pay332 (arg7.view.read (Elt F) X7) (arg6.view.read (Elt F) X6) A (DL (arg2.view.read (Elt F) X2) (arg3.view.read (Elt F) X3)) := by
      refine (View.read_writes_full _ _ _ _ _).trans ((shapeCast_id _ shapeCasts_S1024x4096_S1024x4096).trans ?_)
      unfold body_run.sl.r_7
      rw [View.readAt_full, View.readAt_full, View.readAt_full, e15, h13]
    ihave Hc := (part59_run c i arg1 harg1 arg2 harg2 arg3 harg3 arg5 harg5 arg6 harg6 arg7 harg7 arg9 harg9 arg10 harg10 (BitVec.ofNat 32 (i 0).val) (body_run.sl.v161 i) (body_run.sl.v171 i) (body_run.sl.v172 i) X1 f14 f20 f21 _ kept.order kept.starts) $$ [H1 H14 H20 H21 H9]
    · isplitl [H1]; · iexact H1
      isplitl [H14]; · iexact H14
      isplitl [H20]; · iexact H20
      isplitl [H21]; · iexact H21
      iexact H9
    iapply (wp_seq c _ _ _ _) $$ Hc
    iintro %_ ⟨H1, H14, H20, H21, %g9, %h9, H9⟩
    have e9 := h9
    rw [kept.demb, View.read_writes_full, View.readAt_full, kept.hh, e16] at e9
    by_cases k0_h2 : k0_cond2 i = 1#1
    · sl_exec
      sl_step
      iexists _; iexists _; iexists _; iexists _; iexists _; iexists _; iexists _; iexists _; iexists _; iexists _; iexists _; iexists _; iexists _; iexists _
      isplitr [H1 H2 H3 H5 H6 H7 H4 H8 H9 H10 H11 H12 H13 H14 H15 H16 H17 H18 H19 H20 H21 S13 S14 S15 S16 S17 S18 S19 S20 S21 S22 S23 S24 HW]
      swap
      · isplitl [H1]; · iexact H1
        isplitl [H2]; · iexact H2
        isplitl [H3]; · iexact H3
        isplitl [H5]; · iexact H5
        isplitl [H6]; · iexact H6
        isplitl [H7]; · iexact H7
        isplitl [H4]; · iexact H4
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [S13]; · iexact S13
        isplitl [S14]; · iexact S14
        isplitl [S15]; · iexact S15
        isplitl [S16]; · iexact S16
        isplitl [S17]; · iexact S17
        isplitl [S18]; · iexact S18
        isplitl [S19]; · iexact S19
        isplitl [S20]; · iexact S20
        isplitl [S21]; · iexact S21
        isplitl [S22]; · iexact S22
        isplitl [S23]; · iexact S23
        isplitl [S24]; · iexact S24
        iexact HW
      ipureintro
      refine ⟨kept, e13, e9, fun _ => ?_, fun h => absurd k0_h2 h⟩
      refine (View.read_writes_full _ _ _ _ _).trans ?_
      rw [e13]
      refine congrArg k0_pay1 (Eq.trans ?_ e13)
      unfold body_run.sl.v217_1 View.readCov
      exact (View.readAt_full _ _ _).trans ((View.read_writes_full _ _ _ _ _).trans (View.read_writes_full (s := S1024x4096) sc13.view f13 inb_S1024x4096_S1024x4096_0_0 _ _).symm)
    · sl_exec
      sl_step
      iexists _; iexists _; iexists _; iexists _; iexists _; iexists _; iexists _; iexists _; iexists _; iexists _; iexists _; iexists _; iexists _; iexists _
      isplitr [H1 H2 H3 H5 H6 H7 H4 H8 H9 H10 H11 H12 H13 H14 H15 H16 H17 H18 H19 H20 H21 S13 S14 S15 S16 S17 S18 S19 S20 S21 S22 S23 S24 HW]
      swap
      · isplitl [H1]; · iexact H1
        isplitl [H2]; · iexact H2
        isplitl [H3]; · iexact H3
        isplitl [H5]; · iexact H5
        isplitl [H6]; · iexact H6
        isplitl [H7]; · iexact H7
        isplitl [H4]; · iexact H4
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [S13]; · iexact S13
        isplitl [S14]; · iexact S14
        isplitl [S15]; · iexact S15
        isplitl [S16]; · iexact S16
        isplitl [S17]; · iexact S17
        isplitl [S18]; · iexact S18
        isplitl [S19]; · iexact S19
        isplitl [S20]; · iexact S20
        isplitl [S21]; · iexact S21
        isplitl [S22]; · iexact S22
        isplitl [S23]; · iexact S23
        isplitl [S24]; · iexact S24
        iexact HW
      ipureintro
      exact ⟨kept, e13, e9, fun h => absurd h k0_h2, fun _ => rfl⟩

end Cert.KernelIdeal.Hand
end
-- ==== Proof.KernelIdealDat.lean ====
/-
  The pipeline's proof data: what each window's buffer and the kernel's own buffers hold at every grid point; the run and the frame.
-/
module

public import proofs.«01_k».proof.Proof.KernelIdealBody
public import proofs.«01_k».proof.Proof.Gen.KernelIdeal.Frame

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The grid's closed forms -/

theorem coord_eq : ∀ t : Fin grid0.N, ((grid0.coords t) 0).val = t.val := by decide +kernel
theorem cond1_iff : ∀ t : Fin grid0.N, k0_cond1 (grid0.coords t) = 1#1 ↔ t.val = 0 := by decide +kernel
theorem cond2_iff : ∀ t : Fin grid0.N, k0_cond2 (grid0.coords t) = 1#1 ↔ t.val = 124 := by decide +kernel

/-- The first grid point. -/
def pt0 : Fin cfg0.N := ⟨0, by decide⟩
theorem iblk0_const (c : Dev nD) (t : Fin cfg0.N) : iblk m c 0 t = iblk m c 0 pt0 := rfl
theorem iblk3_const (c : Dev nD) (t : Fin cfg0.N) : iblk m c 3 t = iblk m c 3 pt0 := rfl

/-! ## The values -/

/-- The token ids. -/
def idsOf (c : Dev nD) : Fin 1024 → BitVec 32 := toks (F := F) (iblk m c 0 pt0)
/-- The gradient of the embeddings. -/
def dembOf (c : Dev nD) : Vec F S1024x4096 .bf16 := hb8.view.read (Elt F) (V m c main_v4)
/-- The dequantized activations. -/
def hhOf (c : Dev nD) : Vec F S1024x4096 .bf16 := HH (hb4.view.read (Elt F) (V m c main_v2)) (iblk m c 3 pt0)
/-- The accumulator of the activations' gradient before point `n`. -/
def accOf (c : Dev nD) : ℕ → FVec F S1024x4096 .f32
  | 0 => k0_pay306
  | n + 1 => if h : n < cfg0.N then k0_pay332 (iblk m c 5 ⟨n, h⟩) (iblk m c 4 ⟨n, h⟩) (accOf c n) (DL (iblk m c 1 ⟨n, h⟩) (iblk m c 2 ⟨n, h⟩)) else accOf c n
/-- The block of the embedding's gradient written at point `t`. -/
def dEOf (c : Dev nD) (t : Fin cfg0.N) : Vec F S256x4096 .f32 :=
  addRows (idsOf m c) (dembOf m c) t.val (TokenSort.start (idsOf m c) t.val) (k0_pay334 (DLT (iblk m c 1 t) (iblk m c 2 t)) (hhOf m c))
    (TokenSort.start (idsOf m c) (t.val + 1) - TokenSort.start (idsOf m c) t.val)

/-- What the kernel keeps between grid points, as values. -/
structure KeptV (c : Dev nD) (g12 : Cts (F := F) c sc12) (g14 : Cts (F := F) c sc14) (g20 : Cts (F := F) c sc20) (g21 : Cts (F := F) c sc21) : Prop where
  hh : sc12.view.read (Elt F) g12 = hhOf m c
  demb : sc14.view.read (Elt F) g14 = dembOf m c
  order : ∀ k, toks (sc20.view.read (Elt F) g20) k = BitVec.ofNat 32 (TokenSort.order (idsOf m c) k).val
  starts : ∀ j, sc21.view.read (Elt F) g21 j = BitVec.ofNat 32 (TokenSort.start (idsOf m c) (lane j).val)

/-! ## The invariant -/

/-- The kernel's own transfer cells. -/
abbrev osem0 : Fin 12 → SemLoc sig := fun j => (![SemLoc.dma 13, SemLoc.dma 14, SemLoc.dma 15, SemLoc.dma 16, SemLoc.dma 17, SemLoc.dma 18,
  SemLoc.dma 19, SemLoc.dma 20, SemLoc.dma 21, SemLoc.dma 22, SemLoc.dma 23, SemLoc.dma 24] : Fin 12 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(sem0 c (.dma 13) ∗ sem0 c (.dma 14) ∗ sem0 c (.dma 15) ∗ sem0 c (.dma 16) ∗ sem0 c (.dma 17) ∗ sem0 c (.dma 18) ∗ sem0 c (.dma 19) ∗ sem0 c (.dma 20) ∗ sem0 c (.dma 21) ∗ sem0 c (.dma 22) ∗ sem0 c (.dma 23) ∗ sem0 c (.dma 24)) := by
  rw [Pipeline.ownSems0_eq_of_list c osem0 [0, 1, 2, 3, 4, 5, 6, 7, 8, 9, 10, 11] (by decide) (by decide)]; rfl
/-- The operands left in HBM. -/
def H0 : Finset (Ref sig .tc) := {main_v2, main_v4}
theorem H0_sub : H0 ⊆ Pipeline.restRefs sig spec0 := by decide
theorem hbmPts0_eq (c : Dev nD) :
    (bigSep H0 (fun b => ((c : Thread nD τ).loc b) ↦{fullShare} V m c b) : sProp 𝕄)
      = iprop(pt c hb4 (V m c main_v2) ∗ pt c hb8 (V m c main_v4)) := by
  rw [BI.bigSep_eq_bigSepL_of_eq [main_v2, main_v4] (by decide) (by decide)]
  simp only [pt, hb4, hb8, Memref.view_whole, View.set_whole]; try rfl

/-- What the kernel's own buffers hold before point `n`. -/
def Inv (c : Dev nD) (n : ℕ) : sProp 𝕄 :=
  iprop((∃ (f11 : Cts (F := F) c sc11) (f12 : Cts (F := F) c sc12) (f13 : Cts (F := F) c sc13) (f14 : Cts (F := F) c sc14) (f15 : Cts (F := F) c sc15) (f16 : Cts (F := F) c sc16)
      (f17 : Cts (F := F) c sc17) (f18 : Cts (F := F) c sc18) (f19 : Cts (F := F) c sc19) (f20 : Cts (F := F) c sc20) (f21 : Cts (F := F) c sc21),
      ⌜n ≠ 0 → KeptV m c f12 f14 f20 f21 ∧ sc13.view.read (Elt F) f13 = accOf m c n⌝
      ∗ pt c sc11 f11 ∗ pt c sc12 f12 ∗ pt c sc13 f13 ∗ pt c sc14 f14 ∗ pt c sc15 f15 ∗ pt c sc16 f16 ∗ pt c sc17 f17 ∗ pt c sc18 f18 ∗ pt c sc19 f19 ∗ pt c sc20 f20 ∗ pt c sc21 f21)
    ∗ (∃ r, prngReg c r) ∗ (sem0 c (.dma 13) ∗ sem0 c (.dma 14) ∗ sem0 c (.dma 15) ∗ sem0 c (.dma 16) ∗ sem0 c (.dma 17) ∗ sem0 c (.dma 18) ∗ sem0 c (.dma 19) ∗ sem0 c (.dma 20) ∗ sem0 c (.dma 21) ∗ sem0 c (.dma 22) ∗ sem0 c (.dma 23) ∗ sem0 c (.dma 24)) ∗ pt c hb4 (V m c main_v2) ∗ pt c hb8 (V m c main_v4))

theorem scr_eq (c : Dev nD) :
    (Pipeline.scopedRest (Ix := Unit) (Name := ℕ) (U := Pipeline.UD sig nD τ) (Lvl := ℕ) (Val := Elt F) spec0 c : sProp 𝕄)
      = iprop((∃ f, pt c sc11 f) ∗ (∃ f, pt c sc12 f) ∗ (∃ f, pt c sc13 f) ∗ (∃ f, pt c sc14 f) ∗ (∃ f, pt c sc15 f) ∗ (∃ f, pt c sc16 f) ∗ (∃ f, pt c sc17 f)
        ∗ (∃ f, pt c sc18 f) ∗ (∃ f, pt c sc19 f) ∗ (∃ f, pt c sc20 f) ∗ (∃ f, pt c sc21 f)) := by
  rw [scopedRest0_eq]
  simp only [pt, Memref.view_whole, View.set_whole]; try rfl

theorem Inv_in (c : Dev nD) : Pipeline.ΦD osem0 spec0 H0 (V m) c ⊢ (Inv m c 0 : sProp 𝕄) := by
  rw [Pipeline.ΦD_eq, scr_eq, ownSems00_eq, hbmPts0_eq]
  unfold Inv
  iintro ⟨⟨⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩⟩, Hr⟩
  isplitr [Hr]
  swap
  · iexact Hr
  iexists f11; iexists f12; iexists f13; iexists f14; iexists f15; iexists f16; iexists f17; iexists f18; iexists f19; iexists f20; iexists f21
  isplitr
  · ipureintro; exact fun h => absurd rfl h
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem Inv_out (c : Dev nD) (n : ℕ) : (Inv m c n : sProp 𝕄) ⊢ Pipeline.ΦD osem0 spec0 H0 (V m) c := by
  rw [Pipeline.ΦD_eq, scr_eq, ownSems00_eq, hbmPts0_eq]
  unfold Inv
  iintro ⟨⟨%f11, %f12, %f13, %f14, %f15, %f16, %f17, %f18, %f19, %f20, %f21, -, H11, H12, H13, H14, H15, H16, H17, H18, H19, H20, H21⟩, Hr⟩
  isplitr [Hr]
  swap
  · iexact Hr
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  iexists _; iexact H21

/-! ## The proof data -/

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dEOf m c t
    | ⟨7, _⟩ => k0_pay1 (accOf m c (t.val + 1))
  Φ t := Inv m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = dEOf m c t := by dsimp only [dats]
theorem after0_7 (c : Dev nD) (t : Fin cfg0.N) : (dats m 0 c).after 7 t = k0_pay1 (accOf m c (t.val + 1)) := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)

/-- What window 7's buffer holds after the body: the rounded accumulator at the last point, what it held elsewhere. -/
def post7 (c : Dev nD) (t : Fin cfg0.N) : sProp 𝕄 :=
  match cfg0.idle 7 (cfg0.grid.coords t) with
  | true => match (cfg0.win 7).flush t with
    | false => iprop(∃ d, owns (c : Thread nD τ) (st0_7 t) fullShare ((dats m 0 c).before 7 t d))
    | true => owns (c : Thread nD τ) (st0_7 t) fullShare ((dats m 0 c).after 7 t)
  | false => owns (c : Thread nD τ) (st0_7 t) fullShare ((dats m 0 c).after 7 t)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ post7 m c t)

theorem post7_of (c : Dev nD) (t : Fin cfg0.N) (d : (cfg0.win 7).block.Idx → Elt F (cfg0.win 7).elt) (f g : Cts (F := F) c (st0_7 t)) (hf : (st0_7 t).view.read (Elt F) f = (dats m 0 c).before 7 t d)
    (h2 : k0_cond2 (grid0.coords t) = 1#1 → (st0_7 t).view.read (Elt F) g = k0_pay1 (accOf m c (t.val + 1)))
    (h3 : ¬ k0_cond2 (grid0.coords t) = 1#1 → g = f) : pt c (st0_7 t) g ⊢ post7 m c t := by
  unfold post7
  by_cases h : k0_cond2 (grid0.coords t) = 1#1
  · rw [show cfg0.idle 7 (cfg0.grid.coords t) = false from by
      show (!(k0_cond2 (grid0.coords t) == 1#1)) = false
      rw [h]; rfl]
    rw [after0_7]
    unfold owns
    iintro H; iexists g; isplitr
    · ipureintro; exact h2 h
    · iexact H
  · rw [show cfg0.idle 7 (cfg0.grid.coords t) = true from by
      show (!(k0_cond2 (grid0.coords t) == 1#1)) = true
      rw [beq_eq_false_iff_ne.2 h]; rfl]
    rw [show (cfg0.win 7).flush t = false from Bool.eq_false_iff.2 fun hf => h ((cond2_iff t).2 (by
      have := (flush0_7 t).1 hf
      have ht : t.val < 125 := lt_of_lt_of_eq t.isLt N_0
      omega))]
    unfold owns
    iintro H; iexists d; iexists g; isplitr
    · ipureintro; rw [h3 h]; exact hf
    · iexact H

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.castSucc = Inv m c t.val from rfl, show (dats m 0 c).Φ t.succ = Inv m c (t.val + 1) from rfl]
  rw [after0_0, after0_1, after0_2, after0_3, after0_4, after0_5, after0_6]
  simp only [before0_0, before0_1, before0_2, before0_3, before0_4, before0_5]
  unfold Dat.owesAt Pipeline.owesWithin
  rw [show (dats m 0 c).owed t.castSucc = 0 from rfl, show (dats m 0 c).owed t.succ = 0 from rfl]
  unfold Inv
  conv_lhs => unfold owns
  iintro ⟨⟨⟨%f11, %f12, %f13, %f14, %f15, %f16, %f17, %f18, %f19, %f20, %f21, %hI, H11, H12, H13, H14, H15, H16, H17, H18, H19, H20, H21⟩, Hg, ⟨S13, S14, S15, S16, S17, S18, S19, S20, S21, S22, S23, S24⟩, H4, H8⟩, ⟨%W, -, HW⟩,
    ⟨%d0, %X1, %h1, H1⟩, ⟨%d1, %X2, %h2, H2⟩, ⟨%d2, %X3, %h3, H3⟩, ⟨%d3, %X5, %h5, H5⟩, ⟨%d4, %X6, %h6, H6⟩, ⟨%d5, %X7, %h7, H7⟩, ⟨%d6, %f9, %h9, H9⟩, ⟨%d7, %f10, %h10, H10⟩⟩
  have hb := body_run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2))
    (st0_3 t) (hstage0_3 ((cfg0.slots t 3).cast nbuf0_3)) (st0_4 t) (hstage0_4 ((cfg0.slots t 4).cast nbuf0_4)) (st0_5 t) (hstage0_5 ((cfg0.slots t 5).cast nbuf0_5))
    (st0_6 t) (hstage0_6 ((cfg0.slots t 6).cast nbuf0_6)) (st0_7 t) (hstage0_7 ((cfg0.slots t 7).cast nbuf0_7))
    (accOf m c t.val) X1 X2 X3 X5 X6 X7 (V m c main_v2) (V m c main_v4) f9 f10 f11 f12 f13 f14 f15 f16 f17 f18 f19 f20 f21 W
    (fun h => by rw [(cond1_iff t).1 h]; rfl)
    (fun h => by
      obtain ⟨hk, ha⟩ := hI (mt (cond1_iff t).2 h)
      refine ⟨⟨?_, hk.demb, ?_, ?_⟩, ha⟩
      · rw [h5]; exact hk.hh
      · rw [h1]; exact hk.order
      · rw [h1]; exact hk.starts)
  ihave Hb := hb $$ [H1 H2 H3 H5 H6 H7 H4 H8 H9 H10 H11 H12 H13 H14 H15 H16 H17 H18 H19 H20 H21 S13 S14 S15 S16 S17 S18 S19 S20 S21 S22 S23 S24 HW]
  · isplitl [H1]; · iexact H1
    isplitl [H2]; · iexact H2
    isplitl [H3]; · iexact H3
    isplitl [H5]; · iexact H5
    isplitl [H6]; · iexact H6
    isplitl [H7]; · iexact H7
    isplitl [H4]; · iexact H4
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S23]; · iexact S23
    isplitl [S24]; · iexact S24
    iexact HW
  iapply (wp_wand _ _ _) $$ Hb
  iintro %_ ⟨%g9, %g10, %g11, %g12, %g13, %g14, %g15, %g16, %g17, %g18, %g19, %g20, %g21, %W', ⟨%kept, %e13, %e9, %e10, %e10'⟩, H1, H2, H3, H5, H6, H7, H4, H8, H9, H10, H11, H12, H13, H14, H15, H16, H17, H18, H19, H20, H21, S13, S14, S15, S16, S17, S18, S19, S20, S21, S22, S23, S24, HW⟩
  have ea : sc13.view.read (Elt F) g13 = accOf m c (t.val + 1) := by
    rw [e13, h2, h3, h6, h7]
    show _ = dite _ _ _
    rw [dif_pos t.isLt]
  isplitl [H4 H8 H11 H12 H13 H14 H15 H16 H17 H18 H19 H20 H21 S13 S14 S15 S16 S17 S18 S19 S20 S21 S22 S23 S24 Hg]
  · isplitl [H11 H12 H13 H14 H15 H16 H17 H18 H19 H20 H21]
    · iexists g11; iexists g12; iexists g13; iexists g14; iexists g15; iexists g16; iexists g17; iexists g18; iexists g19; iexists g20; iexists g21
      isplitr
      · ipureintro
        refine fun _ => ⟨⟨?_, kept.demb, ?_, ?_⟩, ea⟩
        · rw [kept.hh, h5]; rfl
        · have := kept.order; rw [h1] at this; exact this
        · have := kept.starts; rw [h1] at this; exact this
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      iexact H21
    isplitl [Hg]; · iexact Hg
    isplitl [S13 S14 S15 S16 S17 S18 S19 S20 S21 S22 S23 S24]
    · isplitl [S13]; · iexact S13
      isplitl [S14]; · iexact S14
      isplitl [S15]; · iexact S15
      isplitl [S16]; · iexact S16
      isplitl [S17]; · iexact S17
      isplitl [S18]; · iexact S18
      isplitl [S19]; · iexact S19
      isplitl [S20]; · iexact S20
      isplitl [S21]; · iexact S21
      isplitl [S22]; · iexact S22
      isplitl [S23]; · iexact S23
      iexact S24
    isplitl [H4]; · iexact H4
    iexact H8
  isplitl [HW]
  · iexists W'; isplitr; · ipureintro; exact fun _ _ => Or.inl trivial
    iexact HW
  isplitl [H1]; · unfold owns; iexists X1; isplitr; · ipureintro; exact h1
                  iexact H1
  isplitl [H2]; · unfold owns; iexists X2; isplitr; · ipureintro; exact h2
                  iexact H2
  isplitl [H3]; · unfold owns; iexists X3; isplitr; · ipureintro; exact h3
                  iexact H3
  isplitl [H5]; · unfold owns; iexists X5; isplitr; · ipureintro; exact h5
                  iexact H5
  isplitl [H6]; · unfold owns; iexists X6; isplitr; · ipureintro; exact h6
                  iexact H6
  isplitl [H7]; · unfold owns; iexists X7; isplitr; · ipureintro; exact h7
                  iexact H7
  isplitl [H9]
  · unfold owns; iexists g9; isplitr
    · ipureintro
      rw [e9, h1, h2, h3, h5, coord_eq]; rfl
    iexact H9
  iapply (post7_of m c t d7 f10 g10 h10 (fun h => by rw [e10 h, ea]) e10')
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun c => Inv_in m c) (hout := fun c => Inv_out m c _)

/-- The arguments end unchanged. -/
theorem args_of (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by decide))).trans (V_main_arg0 m c),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩

/-- The frame: every argument ends unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨args_of m r h.1, h.2⟩) (run_main m ρ)

end Cert.KernelIdeal.Hand

end
-- ==== Proof.Spec.lean ====
/-
  The two gradients as sums of extended reals: what the kernel and the reference are both shown to compute.
-/
module

public import Idealize.ShloMosaic.Lib.ValueIdx
public import Idealize.ShloMosaic.Lib.Pipeline.ValueKit

@[expose] public section

noncomputable section

namespace HeadGrad

open Idealize.ShloMosaic Idealize.ShloMosaic.ValueIdx

/-- A token's sequence. -/
def sqn (t : Fin 1024) : Fin 2 := ⟨t.val / 512, by omega⟩
/-- A token's place in its sequence. -/
def pl (t : Fin 1024) : Fin 512 := ⟨t.val % 512, by omega⟩
/-- The block of 128 tokens a token lies in. -/
def bk (t : Fin 1024) : Fin 4 := ⟨t.val % 512 / 128, by omega⟩

/-- A logit's gradient: its code times the scale of its block of tokens. -/
def dl (x0 : (⟨3, ![2, 512, 32000]⟩ : Shape).Idx → EReal) (x1 : (⟨3, ![2, 4, 32000]⟩ : Shape).Idx → EReal) (t : Fin 1024) (v : Fin 32000) : EReal :=
  x0 (ValueIdx.ix3 (sqn t) (pl t) v) * x1 (ValueIdx.ix3 (sqn t) (bk t) v)

/-- An activation: its code times its token's scale. -/
def hh (x2 : (⟨3, ![2, 512, 4096]⟩ : Shape).Idx → EReal) (x3 : (⟨2, ![2, 512]⟩ : Shape).Idx → EReal) (t : Fin 1024) (d : Fin 4096) : EReal :=
  x2 (ValueIdx.ix3 (sqn t) (pl t) d) * x3 (ValueIdx.ix2 (sqn t) (pl t))

/-- An element of the embedding table: its code times its row's scale. -/
def ee (x4 : (⟨2, ![32000, 4096]⟩ : Shape).Idx → BitVec 8) (x5 : (⟨1, ![32000]⟩ : Shape).Idx → EReal) (v : Fin 32000) (d : Fin 4096) : EReal :=
  FloatOps.sitofp (F := Ideal) .bf16 (x4 (ValueIdx.ix2 v d)) * x5 (ValueIdx.ix1 v)

/-- A token's id. -/
def tid (x6 : (⟨2, ![2, 512]⟩ : Shape).Idx → BitVec 32) (t : Fin 1024) : BitVec 32 := x6 (ValueIdx.ix2 (sqn t) (pl t))

/-- The gradient of the table: the head's, plus the rows of the tokens that looked the row up. -/
def dE (x0 : (⟨3, ![2, 512, 32000]⟩ : Shape).Idx → EReal) (x1 : (⟨3, ![2, 4, 32000]⟩ : Shape).Idx → EReal)
    (x2 : (⟨3, ![2, 512, 4096]⟩ : Shape).Idx → EReal) (x3 : (⟨2, ![2, 512]⟩ : Shape).Idx → EReal)
    (x6 : (⟨2, ![2, 512]⟩ : Shape).Idx → BitVec 32) (x7 : (⟨3, ![2, 512, 4096]⟩ : Shape).Idx → EReal) (v : Fin 32000) (d : Fin 4096) : EReal :=
  (∑ t : Fin 1024, dl x0 x1 t v * hh x2 x3 t d) + ∑ t : Fin 1024, if (tid x6 t).toInt = (v.val : Int) then x7 (ValueIdx.ix3 (sqn t) (pl t) d) else 0

/-- The gradient of the activations. -/
def dH (x0 : (⟨3, ![2, 512, 32000]⟩ : Shape).Idx → EReal) (x1 : (⟨3, ![2, 4, 32000]⟩ : Shape).Idx → EReal)
    (x4 : (⟨2, ![32000, 4096]⟩ : Shape).Idx → BitVec 8) (x5 : (⟨1, ![32000]⟩ : Shape).Idx → EReal) (t : Fin 1024) (d : Fin 4096) : EReal :=
  ∑ v : Fin 32000, dl x0 x1 t v * ee x4 x5 v d

end HeadGrad

end
-- ==== Proof.KernelIdealValue.lean ====
/-
  What the kernel's two results are, read at exact arithmetic: the two sums of Spec.lean.
-/
module

public import proofs.«01_k».proof.Proof.KernelIdealDat
public import proofs.«01_k».proof.Proof.Spec
public import Idealize.ShloMosaic.Lib.Claim

@[expose] public section

set_option maxRecDepth 16384
set_option maxHeartbeats 1000000

noncomputable section

namespace Cert.KernelIdeal.Hand

open Cert.KernelIdeal Cert.KernelIdeal.Gen
open Idealize.ShloMosaic Idealize.ShloMosaic.TcCoe Idealize.ShloMosaic.Tactic Idealize.SL.Sem
open HeadGrad

variable (m : (ℓ : Loc nD τ sig) → Buf (Elt Ideal) ℓ)

/-! ## The blocks at coordinates -/

theorem lt125 (t : Fin cfg0.N) : t.val < 125 := lt_of_lt_of_eq t.isLt N_0
/-- Lane `k` of vocabulary block `t`. -/
def vv (t : Fin cfg0.N) (k : Fin 256) : Fin 32000 := ⟨t.val * 256 + k.val, by have := lt125 t; omega⟩

theorem at1 : ∀ t : Fin grid0.N, win0_1.index t 0 = 0 ∧ win0_1.index t 1 = t.val := by decide +kernel
theorem at2 : ∀ t : Fin grid0.N, win0_2.index t 0 = 0 ∧ win0_2.index t 1 = 0 ∧ win0_2.index t 2 = t.val := by decide +kernel
theorem at4 : ∀ t : Fin grid0.N, win0_4.index t 0 = t.val ∧ win0_4.index t 1 = 0 := by decide +kernel
theorem at5 : ∀ t : Fin grid0.N, win0_5.index t 0 = t.val ∧ win0_5.index t 2 = 0 := by decide +kernel
theorem at6 : ∀ t : Fin grid0.N, win0_6.index t 0 = t.val ∧ win0_6.index t 1 = 0 := by decide +kernel

theorem ids_at (c : Dev nD) (r : Fin 1024) : idsOf m c r = tid (m ((c.tc : Thread nD τ).loc main_arg6)) r := by
  unfold idsOf toks tid
  blk_ext! [iblk, V]
  · show (0 * 1024 + r.val) / 512 = r.val / 512; omega
  · show (0 * 1024 + r.val) % 512 = r.val % 512; omega

theorem codes_at (c : Dev nD) (t : Fin cfg0.N) (r : Fin 1024) (k : Fin 256) :
    iblk m c 1 t (ValueIdx.ix2 r k) = m ((c.tc : Thread nD τ).loc main_arg0) (ValueIdx.ix3 (sqn r) (pl r) (vv t k)) := by
  blk_ext! [iblk, V, coord_eq t]
  · rw [(at1 t).1]; show (0 * 1024 + r.val) / 512 = r.val / 512; omega
  · rw [(at1 t).1]; show (0 * 1024 + r.val) % 512 = r.val % 512; omega
  · rw [(at1 t).2]; rfl

theorem scales_at (c : Dev nD) (t : Fin cfg0.N) (r : Fin 1024) (k : Fin 256) :
    iblk m c 2 t (ValueIdx.ix3 (sqn r) (bk r) k) = m ((c.tc : Thread nD τ).loc main_arg1) (ValueIdx.ix3 (sqn r) (bk r) (vv t k)) := by
  blk_ext! [iblk, V, coord_eq t]
  · rw [(at2 t).1, Nat.zero_mul, Nat.zero_add]
  · rw [(at2 t).2.1, Nat.zero_mul, Nat.zero_add]
  · rw [(at2 t).2.2]; rfl

theorem hscale_at (c : Dev nD) (r : Fin 1024) :
    iblk m c 3 pt0 (ValueIdx.ix2 (sqn r) (pl r)) = m ((c.tc : Thread nD τ).loc main_arg3) (ValueIdx.ix2 (sqn r) (pl r)) := by
  blk_ext! [iblk, V]
  · rw [show win0_3.index pt0 0 = 0 from rfl, Nat.zero_mul, Nat.zero_add]
  · rw [show win0_3.index pt0 1 = 0 from rfl, Nat.zero_mul, Nat.zero_add]

theorem ecodes_at (c : Dev nD) (t : Fin cfg0.N) (k : Fin 256) (d : Fin 4096) :
    iblk m c 4 t (ValueIdx.ix2 k d) = m ((c.tc : Thread nD τ).loc main_arg4) (ValueIdx.ix2 (vv t k) d) := by
  blk_ext! [iblk, V, coord_eq t]
  · rw [(at4 t).1]; rfl
  · rw [(at4 t).2, Nat.zero_mul, Nat.zero_add]

theorem escale_at (c : Dev nD) (t : Fin cfg0.N) (k : Fin 256) :
    iblk m c 5 t (ValueIdx.ix3 (0 : Fin 1) (0 : Fin 1) k) = m ((c.tc : Thread nD τ).loc main_arg5) (ValueIdx.ix1 (vv t k)) := by
  blk_ext! [iblk, V, coord_eq t]
  rw [(at5 t).1, (at5 t).2, Nat.zero_mul, Nat.zero_add]; rfl

theorem hcodes_at (c : Dev nD) (r : Fin 1024) (d : Fin 4096) :
    hb4.view.read (Elt Ideal) (V m c main_v2) (ValueIdx.ix2 r d) = m ((c.tc : Thread nD τ).loc main_arg2) (ValueIdx.ix3 (sqn r) (pl r) d) := by
  show V m c main_v2 (ValueIdx.ix2 r d) = _
  entry_read
  pointwise
  refine congrArg (m (c, Proc.tc.devRef main_arg2)) (funext fun a => ?_)
  match a with
  | ⟨0, _⟩ => rfl
  | ⟨1, _⟩ => rfl
  | ⟨2, _⟩ => rfl

theorem demb_at (c : Dev nD) (r : Fin 1024) (d : Fin 4096) :
    dembOf m c (ixD r d) = m ((c.tc : Thread nD τ).loc main_arg7) (ValueIdx.ix3 (sqn r) (pl r) d) := by
  show V m c main_v4 (ixD r d) = _
  entry_read
  pointwise
  refine congrArg (m (c, Proc.tc.devRef main_arg7)) (funext fun a => ?_)
  match a with
  | ⟨0, _⟩ => rfl
  | ⟨1, _⟩ => rfl
  | ⟨2, _⟩ => rfl

/-! ## The dequantized factors -/

theorem dl_at (c : Dev nD) (t : Fin cfg0.N) (r : Fin 1024) (k : Fin 256) :
    DL (iblk m c 1 t) (iblk m c 2 t) (ValueIdx.ix2 r k) = dl (m ((c.tc : Thread nD τ).loc main_arg0)) (m ((c.tc : Thread nD τ).loc main_arg1)) r (vv t k) := by
  unfold dl
  rw [← codes_at m c, ← scales_at m c]
  refine congrArg (fun i => @HMul.hMul EReal EReal EReal _ (iblk m c 1 t (ValueIdx.ix2 r k)) (iblk m c 2 t i)) (funext fun a => ?_)
  match a with
  | ⟨0, _⟩ => rfl
  | ⟨1, _⟩ => rfl
  | ⟨2, _⟩ => rfl

theorem dlt_at (c : Dev nD) (t : Fin cfg0.N) (r : Fin 1024) (k : Fin 256) :
    DLT (iblk m c 1 t) (iblk m c 2 t) (ValueIdx.ix2 k r) = dl (m ((c.tc : Thread nD τ).loc main_arg0)) (m ((c.tc : Thread nD τ).loc main_arg1)) r (vv t k) := by
  rw [← dl_at]
  unfold DLT
  refine congrArg (DL (iblk m c 1 t) (iblk m c 2 t)) (funext fun a => ?_)
  match a with
  | ⟨0, _⟩ => rfl
  | ⟨1, _⟩ => rfl

theorem hh_at (c : Dev nD) (r : Fin 1024) (d : Fin 4096) :
    hhOf m c (ValueIdx.ix2 r d) = hh (m ((c.tc : Thread nD τ).loc main_arg2)) (m ((c.tc : Thread nD τ).loc main_arg3)) r d := by
  unfold hh
  rw [← hcodes_at m c, ← hscale_at m c]
  refine congrArg (fun i => (hb4.view.read (Elt Ideal) (V m c main_v2) (ValueIdx.ix2 r d) * (iblk m c 3 pt0 i : EReal) : EReal)) (funext fun a => ?_)
  match a with
  | ⟨0, _⟩ => rfl
  | ⟨1, _⟩ => rfl

/-! ## The two products -/

theorem pay334_at (A : FVec Ideal S256x1024 .bf16) (B : FVec Ideal S1024x4096 .bf16) (k : Fin 256) (d : Fin 4096) :
    k0_pay334 (F := Ideal) A B (ValueIdx.ix2 k d) = ∑ r : Fin 1024, (A (ValueIdx.ix2 k r) * B (ValueIdx.ix2 r d) : EReal) := by
  show FloatOps.matmul (F := Ideal) dot_S256x1024_S1024x4096_S256x4096_1_0_0_1_n_n none A B (constant S256x4096 .f32 0x00000000#32) (ValueIdx.ix2 k d) = _
  rw [Ideal.matmul_constant_zero_apply]
  rw [← Equiv.sum_comp (ValueIdx.contrEquiv1 dot_S256x1024_S1024x4096_S256x4096_1_0_0_1_n_n 1024 rfl rfl).symm]
  refine Finset.sum_congr rfl fun r _ => ?_
  refine congrArg₂ (fun i j => (A i * B j : EReal)) (funext fun a => Fin.ext ?_) (funext fun a => Fin.ext ?_)
  · match a with
    | ⟨0, _⟩ => rfl
    | ⟨1, _⟩ => rfl
  · match a with
    | ⟨0, _⟩ => rfl
    | ⟨1, _⟩ => rfl

theorem pay332_at (s : FVec Ideal S1x1x256 .f32) (q : IVec S256x4096 8) (A : FVec Ideal S1024x4096 .f32) (D : FVec Ideal S1024x256 .bf16) (r : Fin 1024) (d : Fin 4096) :
    k0_pay332 (F := Ideal) s q A D (ValueIdx.ix2 r d)
      = A (ValueIdx.ix2 r d) + ∑ k : Fin 256, (D (ValueIdx.ix2 r k) * (FloatOps.sitofp (F := Ideal) .bf16 (q (ValueIdx.ix2 k d)) * s (ValueIdx.ix3 (0 : Fin 1) (0 : Fin 1) k)) : EReal) := by
  unfold k0_pay332
  show (A (ValueIdx.ix2 r d) + FloatOps.matmul (F := Ideal) dot_S1024x256_S256x4096_S1024x4096_1_0_0_1_n_n none D _ (constant S1024x4096 .f32 0x00000000#32) (ValueIdx.ix2 r d) : EReal) = _
  rw [Ideal.matmul_constant_zero_apply]
  rw [← Equiv.sum_comp (ValueIdx.contrEquiv1 dot_S1024x256_S256x4096_S1024x4096_1_0_0_1_n_n 256 rfl rfl).symm]
  refine congrArg (fun x : EReal => (A (ValueIdx.ix2 r d) + x : EReal)) (Finset.sum_congr rfl fun k _ => ?_)
  refine congrArg₂ (fun a b : EReal => a * b) (congrArg D (funext fun a => Fin.ext ?_)) ?_
  · match a with
    | ⟨0, _⟩ => rfl
    | ⟨1, _⟩ => rfl
  · refine congrArg₂ (fun a b : EReal => a * b) (congrArg (fun i => FloatOps.sitofp (F := Ideal) .bf16 (q i)) (funext fun a => Fin.ext ?_)) ?_
    · match a with
      | ⟨0, _⟩ => rfl
      | ⟨1, _⟩ => rfl
    · rw [show dot_S1024x256_S256x4096_S1024x4096_1_0_0_1_n_n.rhsIdx (ValueIdx.ix2 r d) ((ValueIdx.contrEquiv1 dot_S1024x256_S256x4096_S1024x4096_1_0_0_1_n_n 256 rfl rfl).symm k) = ValueIdx.ix2 k d from
        funext fun a => match a with
          | ⟨0, _⟩ => rfl
          | ⟨1, _⟩ => rfl]
      pointwise
      rfl

/-! ## The accumulated gradient of the activations -/

theorem acc_at (c : Dev nD) (r : Fin 1024) (d : Fin 4096) (n : ℕ) :
    accOf m c n (ValueIdx.ix2 r d) = ∑ s ∈ Finset.range n, (if h : s < cfg0.N then ∑ k : Fin 256,
      dl (m ((c.tc : Thread nD τ).loc main_arg0)) (m ((c.tc : Thread nD τ).loc main_arg1)) r (vv ⟨s, h⟩ k)
        * ee (m ((c.tc : Thread nD τ).loc main_arg4)) (m ((c.tc : Thread nD τ).loc main_arg5)) (vv ⟨s, h⟩ k) d else 0 : EReal) := by
  induction n with
  | zero => rw [Finset.range_zero, Finset.sum_empty]; exact Ideal.ofBits_zero_f32
  | succ n ih =>
    rw [Finset.sum_range_succ, ← ih]
    show (if h : n < cfg0.N then _ else _ : FVec Ideal S1024x4096 .f32) (ValueIdx.ix2 r d) = _
    by_cases h : n < cfg0.N
    · rw [dif_pos h, dif_pos h, pay332_at]
      refine congrArg (fun x : EReal => (accOf m c n (ValueIdx.ix2 r d) + x : EReal)) (Finset.sum_congr rfl fun k _ => ?_)
      rw [dl_at, ecodes_at, escale_at]; rfl
    · rw [dif_neg h, dif_neg h, add_zero]

theorem acc_end (c : Dev nD) (r : Fin 1024) (d : Fin 4096) :
    accOf m c 125 (ValueIdx.ix2 r d) = dH (m ((c.tc : Thread nD τ).loc main_arg0)) (m ((c.tc : Thread nD τ).loc main_arg1)) (m ((c.tc : Thread nD τ).loc main_arg4))
      (m ((c.tc : Thread nD τ).loc main_arg5)) r d := by
  rw [acc_at, Finset.sum_range]
  unfold dH
  rw [← Fin.sum_mul_add_fin (M := EReal) 125 256 (fun v : Fin 32000 => _)]
  refine Finset.sum_congr rfl fun s _ => ?_
  rw [dif_pos (show s.val < cfg0.N from lt_of_lt_of_eq s.isLt N_0.symm)]
  rfl

/-! ## The rows added, token by token -/

theorem addPair_at (D : Vec Ideal S1024x4096 .bf16) (t : Fin 1024) (x : Vec Ideal S1x4096 .f32) (k : Fin 4096) :
    addPair (F := Ideal) (pairOf D t) (BitVec.ofNat 32 t.val) x (ixR k) = (x (ixR k) + D (ixD t k) : EReal) := by
  have ht := t.isLt
  unfold addPair k0_pay335
  rw [even_eq, shapeCast_id]
  by_cases h : t.val % 2 = 0
  · rw [if_pos h]
    refine congrArg (fun y : EReal => (x (ixR k) + y : EReal)) (?_ : D _ = D _)
    refine congrArg D (funext (Fin.forall_fin_two.2 ⟨Fin.ext ?_, Fin.ext rfl⟩))
    show 2 * (t.val / 2) + (2 * 0 + 0) = t.val
    omega
  · rw [if_neg h]
    refine congrArg (fun y : EReal => (x (ixR k) + y : EReal)) (?_ : D _ = D _)
    refine congrArg D (funext (Fin.forall_fin_two.2 ⟨Fin.ext ?_, Fin.ext rfl⟩))
    show 2 * (t.val / 2) + (2 * 0 + 1) = t.val
    omega

theorem ixB_eta (j : S256x4096.Idx) : ixB (j 0) (j 1) = j := funext (Fin.forall_fin_two.2 ⟨rfl, rfl⟩)

theorem addRows_at (g : Fin 1024 → BitVec 32) (D : Vec Ideal S1024x4096 .bf16) (b a : ℕ) (B : Vec Ideal S256x4096 .f32) (n : ℕ) (j : S256x4096.Idx) :
    addRows g D b a B n j = B j + ∑ p ∈ Finset.range n, (if h : a + p < 1024 then
      (if (g (TokenSort.order g ⟨a + p, h⟩)).toInt = ((256 * b + (j 0).val : ℕ) : Int) then D (ixD (TokenSort.order g ⟨a + p, h⟩) (j 1)) else 0) else 0 : EReal) := by
  induction n with
  | zero => rw [Finset.range_zero, Finset.sum_empty, add_zero]; rfl
  | succ n ih =>
    rw [Finset.sum_range_succ, ← add_assoc, ← ih]
    show (if h : a + n < 1024 then _ else _ : Vec Ideal S256x4096 .f32) j = _
    by_cases h : a + n < 1024
    · rw [dif_pos h, dif_pos h]
      unfold addRow
      split
      · refine (addPair_at D _ _ (j 1)).trans ?_
        show (addRows g D b a B n (ixB (j 0) (j 1)) + _ : EReal) = _
        rw [ixB_eta]
      · rw [add_zero]
    · rw [dif_neg h, dif_neg h, add_zero]

theorem addRows_all (g : Fin 1024 → BitVec 32) (D : Vec Ideal S1024x4096 .bf16) (b : ℕ) (B : Vec Ideal S256x4096 .f32) (j : S256x4096.Idx) :
    addRows g D b (TokenSort.start g b) B (TokenSort.start g (b + 1) - TokenSort.start g b) j
      = B j + ∑ t : Fin 1024, (if (g t).toInt = ((256 * b + (j 0).val : ℕ) : Int) then D (ixD t (j 1)) else 0 : EReal) := by
  have hj : (j 0).val < 256 := (j 0).isLt
  rw [addRows_at]
  refine congrArg (fun x : EReal => (B j + x : EReal)) ?_
  rw [← Finset.sum_Ico_eq_sum_range (fun q => (if h : q < 1024 then
      (if (g (TokenSort.order g ⟨q, h⟩)).toInt = ((256 * b + (j 0).val : ℕ) : Int) then D (ixD (TokenSort.order g ⟨q, h⟩) (j 1)) else 0) else 0 : EReal))]
  rw [Finset.sum_subset (s₂ := Finset.range 1024)]
  · rw [Finset.sum_range]
    refine (Finset.sum_congr rfl fun q _ => dif_pos q.isLt).trans ?_
    exact Equiv.sum_comp (TokenSort.rankE g).symm (fun t : Fin 1024 => (if (g t).toInt = ((256 * b + (j 0).val : ℕ) : Int) then D (ixD t (j 1)) else 0 : EReal))
  · intro q hq
    have := (Finset.mem_Ico.1 hq).2
    have := TokenSort.start_le g (b + 1)
    exact Finset.mem_range.2 (by omega)
  · intro q hq hn
    have hq := Finset.mem_range.1 hq
    rw [dif_pos hq]
    refine if_neg fun he => hn (Finset.mem_Ico.2 ⟨?_, ?_⟩)
    · by_contra hc
      have := (TokenSort.lt_start_iff g ⟨q, hq⟩ b).1 (by simpa using hc)
      omega
    · exact (TokenSort.lt_start_iff g ⟨q, hq⟩ (b + 1)).2 (by omega)

theorem dE_at (c : Dev nD) (t : Fin cfg0.N) (k : Fin 256) (d : Fin 4096) :
    dEOf m c t (ValueIdx.ix2 k d) = dE (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg6)) (m ((c.tc : Thread nD τ).loc main_arg7)) (vv t k) d := by
  unfold dEOf dE
  rw [addRows_all, pay334_at]
  refine congrArg₂ (fun a b : EReal => a + b) (Finset.sum_congr rfl fun r _ => ?_) (Finset.sum_congr rfl fun r _ => ?_)
  · rw [dlt_at, hh_at]
  · rw [ids_at]
    have e : ((256 * t.val + ((ValueIdx.ix2 k d : S256x4096.Idx) 0).val : ℕ) : Int) = ((vv t k).val : Int) := by
      show ((256 * t.val + k.val : ℕ) : Int) = ((t.val * 256 + k.val : ℕ) : Int)
      omega
    rw [e]
    refine if_congr Iff.rfl ?_ rfl
    exact demb_at m c r d

/-! ## The two results after the run -/

theorem arr6 (c : Dev nD) : (dats m 0 c).arrAt 6 cfg0.N = fun i : S32000x4096.Idx => dE (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg6)) (m ((c.tc : Thread nD τ).loc main_arg7)) (i 0) (i 1) := by
  refine (dats m 0 c).arrAt_eq_of_covers 6 _ (by decide +kernel) fun t hf y => ?_
  blk_simp
  rw [after0_6]
  refine (congrArg (dEOf m c t) (ValueIdx.eq_ix2 (n0 := 256) (n1 := 4096) y)).trans ((dE_at m c t (y 0) (y 1)).trans ?_)
  refine congrArg₂ (dE _ _ _ _ _ _) (Fin.ext ?_) (Fin.ext ?_)
  · blk_simp
    rw [(at6 t).1]; rfl
  · blk_simp
    rw [(at6 t).2, Nat.zero_mul, Nat.zero_add]

theorem arr7 (c : Dev nD) : (dats m 0 c).arrAt 7 cfg0.N = fun i : S1024x4096.Idx => dH (m ((c.tc : Thread nD τ).loc main_arg0)) (m ((c.tc : Thread nD τ).loc main_arg1)) (m ((c.tc : Thread nD τ).loc main_arg4))
      (m ((c.tc : Thread nD τ).loc main_arg5)) (i 0) (i 1) := by
  refine (dats m 0 c).arrAt_eq_of_covers 7 _ (by decide +kernel) fun t hf y => ?_
  blk_simp
  rw [after0_7]
  have ht : t.val = 124 := by
    have := (flush0_7 t).1 hf
    have := lt125 t
    omega
  rw [ht]
  refine (congrArg (accOf m c 125) (ValueIdx.eq_ix2 (n0 := 1024) (n1 := 4096) y)).trans ((acc_end m c (y 0) (y 1)).trans ?_)
  refine congrArg₂ (dH _ _ _ _) (Fin.ext ?_) (Fin.ext ?_)
  · blk_simp
    show _ = 0 * 1024 + (y 0).val
    omega
  · blk_simp
    show _ = 0 * 4096 + (y 1).val
    omega

end Cert.KernelIdeal.Hand

end
-- ==== Proof.ReferenceValue.lean ====
/-
  What the reference's results are: the two sums of Spec.lean.
-/
module

public import proofs.«01_k».proof.Proof.Gen.ReferenceIdeal.Run
public import proofs.«01_k».proof.Proof.Gen.ReferenceIdeal.Read
public import proofs.«01_k».proof.Proof.Spec
public import Idealize.ShloMosaic.Lib.Routing.OpsPair

@[expose] public section

set_option maxRecDepth 16384
set_option maxHeartbeats 1000000

noncomputable section

namespace Cert.ReferenceIdeal.Hand

open Cert.ReferenceIdeal Cert.ReferenceIdeal.Gen
open Idealize.ShloMosaic Idealize.ShloMosaic.TcCoe Idealize.ShloMosaic.Tactic Idealize.SL.Sem
open HeadGrad

variable (m : (ℓ : Loc nD τ sig) → Buf (Elt Ideal) ℓ)

/-! ## What the kernel of casts leaves -/

theorem reg0 (c : Dev nD) : Value.reg_main_v0_0 m c = fun i => FloatOps.extf (F := Ideal) .bf16 bitsLt_fp8e5m2_bf16 (m ((c.tc : Thread nD τ).loc main_arg0) i) := by
  unfold Value.reg_main_v0_0
  refine (dats m 0 c).arrAt_eq_of_covers 3 _ (by decide +kernel) fun t hf y => ?_
  blk_simp
  rw [after0_3]
  frame_out
  refine congrArg (FloatOps.extf (F := Ideal) .bf16 bitsLt_fp8e5m2_bf16) ?_
  show iblk m c 0 t y = _
  unfold iblk
  rfl

theorem reg1 (c : Dev nD) : Value.reg_main_v0_1 m c = fun i => FloatOps.extf (F := Ideal) .bf16 bitsLt_fp8e4m3_bf16 (m ((c.tc : Thread nD τ).loc main_arg2) i) := by
  unfold Value.reg_main_v0_1
  refine (dats m 0 c).arrAt_eq_of_covers 4 _ (by decide +kernel) fun t hf y => ?_
  blk_simp
  rw [after0_4]
  frame_out
  refine congrArg (FloatOps.extf (F := Ideal) .bf16 bitsLt_fp8e4m3_bf16) ?_
  show iblk m c 1 t y = _
  unfold iblk
  rfl

theorem reg2 (c : Dev nD) : Value.reg_main_v0_2 m c = fun i => FloatOps.sitofp (F := Ideal) .bf16 (m ((c.tc : Thread nD τ).loc main_arg4) i) := by
  unfold Value.reg_main_v0_2
  refine (dats m 0 c).arrAt_eq_of_covers 5 _ (by decide +kernel) fun t hf y => ?_
  blk_simp
  rw [after0_5]
  frame_out
  refine congrArg (FloatOps.sitofp (F := Ideal) .bf16) ?_
  show iblk m c 2 t y = _
  unfold iblk
  rfl

/-! ## The operations at an index -/

theorem v6_at (x0 : S2x512x32000.Idx → EReal) (x1 : S2x4x32000.Idx → EReal) (t : Fin 1024) (v : Fin 32000) :
    Read.val_main_v6 (F := Ideal) x1 x0 (ValueIdx.ix3 (sqn t) (pl t) v) = dl x0 x1 t v := by
  rw [Read.val_main_v6_apply, Read.val_main_v5_apply, Read.val_main_v4_apply, Read.val_main_v3_apply, Read.val_main_v2_apply, Read.val_main_v1_apply]
  unfold dl
  have ht := t.isLt
  have hv := v.isLt
  refine congrArg₂ (fun a b : EReal => a * b) (congrArg x0 (funext fun a => Fin.ext ?_)) (congrArg x1 (funext fun a => Fin.ext ?_))
  · match a with
    | ⟨0, _⟩ => show (((((t.val / 512 * 512 + t.val % 512) * 32000 + v.val) / 16384000 * 4 + ((t.val / 512 * 512 + t.val % 512) * 32000 + v.val) / 4096000 % 4) * 128 + ((t.val / 512 * 512 + t.val % 512) * 32000 + v.val) / 32000 % 128) * 32000 + ((t.val / 512 * 512 + t.val % 512) * 32000 + v.val) % 32000) / 16384000 = t.val / 512; omega
    | ⟨1, _⟩ => show (((((t.val / 512 * 512 + t.val % 512) * 32000 + v.val) / 16384000 * 4 + ((t.val / 512 * 512 + t.val % 512) * 32000 + v.val) / 4096000 % 4) * 128 + ((t.val / 512 * 512 + t.val % 512) * 32000 + v.val) / 32000 % 128) * 32000 + ((t.val / 512 * 512 + t.val % 512) * 32000 + v.val) % 32000) / 32000 % 512 = t.val % 512; omega
    | ⟨2, _⟩ => show (((((t.val / 512 * 512 + t.val % 512) * 32000 + v.val) / 16384000 * 4 + ((t.val / 512 * 512 + t.val % 512) * 32000 + v.val) / 4096000 % 4) * 128 + ((t.val / 512 * 512 + t.val % 512) * 32000 + v.val) / 32000 % 128) * 32000 + ((t.val / 512 * 512 + t.val % 512) * 32000 + v.val) % 32000) % 32000 = v.val; omega
  · match a with
    | ⟨0, _⟩ => show ((t.val / 512 * 512 + t.val % 512) * 32000 + v.val) / 16384000 = t.val / 512; omega
    | ⟨1, _⟩ => show ((t.val / 512 * 512 + t.val % 512) * 32000 + v.val) / 4096000 % 4 = t.val % 512 / 128; omega
    | ⟨2, _⟩ => show ((t.val / 512 * 512 + t.val % 512) * 32000 + v.val) % 32000 = v.val; omega

theorem v10_at (x2 : S2x512x4096.Idx → EReal) (x3 : S2x512.Idx → EReal) (t : Fin 1024) (d : Fin 4096) :
    Read.val_main_v10 (F := Ideal) x3 x2 (ValueIdx.ix3 (sqn t) (pl t) d) = hh x2 x3 t d := by
  rw [Read.val_main_v10_apply, Read.val_main_v9_apply, Read.val_main_v8_apply, Read.val_main_v7_apply]
  unfold hh
  refine congrArg₂ (fun a b : EReal => a * b) rfl (congrArg x3 (funext fun a => Fin.ext ?_))
  match a with
  | ⟨0, _⟩ => rfl
  | ⟨1, _⟩ => rfl

theorem v25_at (x4 : S32000x4096.Idx → BitVec 8) (x5 : S32000.Idx → EReal) (v : Fin 32000) (d : Fin 4096) :
    Read.val_main_v25 (F := Ideal) x5 (fun i => FloatOps.sitofp (F := Ideal) .bf16 (x4 i)) (ValueIdx.ix2 v d) = ee x4 x5 v d := by
  rw [Read.val_main_v25_apply, Read.val_main_v24_apply, Read.val_main_v23_apply, Read.val_main_v22_apply]
  unfold ee
  refine congrArg₂ (fun a b : EReal => a * b) rfl (congrArg x5 (funext fun a => Fin.ext ?_))
  match a with
  | ⟨0, _⟩ => rfl

/-- The second result. -/
theorem v28_at (x0 : S2x512x32000.Idx → EReal) (x1 : S2x4x32000.Idx → EReal) (x4 : S32000x4096.Idx → BitVec 8) (x5 : S32000.Idx → EReal)
    (t : Fin 1024) (d : Fin 4096) :
    Read.val_main_v28 (F := Ideal) x1 x5 x0 (fun i => FloatOps.sitofp (F := Ideal) .bf16 (x4 i)) (ValueIdx.ix2 t d) = dH x0 x1 x4 x5 t d := by
  rw [Read.val_main_v28_apply, Read.val_main_v27_apply, Read.val_main_v26_apply]
  unfold dH
  have ht := t.isLt
  have hd := d.isLt
  refine Finset.sum_congr rfl fun v _ => ?_
  rw [← v6_at, ← v25_at]
  refine congrArg₂ (fun a b : EReal => a * b) (congrArg _ (funext fun a => Fin.ext ?_)) (congrArg _ (funext fun a => Fin.ext ?_))
  · match a with
    | ⟨0, _⟩ => show (t.val * 4096 + d.val) / 2097152 = t.val / 512; omega
    | ⟨1, _⟩ => show (t.val * 4096 + d.val) / 4096 % 512 = t.val % 512; omega
    | ⟨2, _⟩ => rfl
  · match a with
    | ⟨0, _⟩ => rfl
    | ⟨1, _⟩ => show (t.val * 4096 + d.val) % 4096 = d.val; omega

/-! ## The head's gradient: a sum over the sequences and the tokens of each -/

theorem v11_at (x0 : S2x512x32000.Idx → EReal) (x1 : S2x4x32000.Idx → EReal) (x2 : S2x512x4096.Idx → EReal) (x3 : S2x512.Idx → EReal)
    (v : Fin 32000) (d : Fin 4096) :
    Read.val_main_v11 (F := Ideal) x1 x3 x0 x2 (ValueIdx.ix2 v d) = ∑ t : Fin 1024, dl x0 x1 t v * hh x2 x3 t d := by
  unfold Read.val_main_v11
  simp only [Host.dotGeneral]
  rw [Ideal.dotGeneral_apply]
  have h1 : ∀ (q : dot_S2x512x32000_S2x512x4096_S32000x4096_01_01_2_2_n_n.contr.Idx) (h : (q ⟨0, by decide⟩).val * 512 + (q ⟨1, by decide⟩).val < 1024),
      dot_S2x512x32000_S2x512x4096_S32000x4096_01_01_2_2_n_n.lhsIdx (ValueIdx.ix2 v d) q
        = ValueIdx.ix3 (sqn ⟨(q ⟨0, by decide⟩).val * 512 + (q ⟨1, by decide⟩).val, h⟩) (pl ⟨(q ⟨0, by decide⟩).val * 512 + (q ⟨1, by decide⟩).val, h⟩) v := by
    intro q h
    have q0 : (q ⟨0, by decide⟩).val < 2 := (q ⟨0, by decide⟩).isLt
    have q1 : (q ⟨1, by decide⟩).val < 512 := (q ⟨1, by decide⟩).isLt
    refine funext fun a => Fin.ext ?_
    match a with
    | ⟨0, _⟩ => show (q ⟨0, _⟩).val = ((q ⟨0, _⟩).val * 512 + (q ⟨1, _⟩).val) / 512; omega
    | ⟨1, _⟩ => show (q ⟨1, _⟩).val = ((q ⟨0, _⟩).val * 512 + (q ⟨1, _⟩).val) % 512; omega
    | ⟨2, _⟩ => rfl
  have h2 : ∀ (q : dot_S2x512x32000_S2x512x4096_S32000x4096_01_01_2_2_n_n.contr.Idx) (h : (q ⟨0, by decide⟩).val * 512 + (q ⟨1, by decide⟩).val < 1024),
      dot_S2x512x32000_S2x512x4096_S32000x4096_01_01_2_2_n_n.rhsIdx (ValueIdx.ix2 v d) q
        = ValueIdx.ix3 (sqn ⟨(q ⟨0, by decide⟩).val * 512 + (q ⟨1, by decide⟩).val, h⟩) (pl ⟨(q ⟨0, by decide⟩).val * 512 + (q ⟨1, by decide⟩).val, h⟩) d := by
    intro q h
    have q0 : (q ⟨0, by decide⟩).val < 2 := (q ⟨0, by decide⟩).isLt
    have q1 : (q ⟨1, by decide⟩).val < 512 := (q ⟨1, by decide⟩).isLt
    refine funext fun a => Fin.ext ?_
    match a with
    | ⟨0, _⟩ => show (q ⟨0, _⟩).val = ((q ⟨0, _⟩).val * 512 + (q ⟨1, _⟩).val) / 512; omega
    | ⟨1, _⟩ => show (q ⟨1, _⟩).val = ((q ⟨0, _⟩).val * 512 + (q ⟨1, _⟩).val) % 512; omega
    | ⟨2, _⟩ => rfl
  have hb : ∀ (a : Fin 2) (l : Fin 512), a.val * 512 + l.val < 1024 := fun a l => by omega
  rw [← Fin.sum_mul_add_fin (M := EReal) 2 512 fun t : Fin 1024 => dl x0 x1 t v * hh x2 x3 t d, ← Fintype.sum_prod_type']
  refine Fintype.sum_equiv (ι := dot_S2x512x32000_S2x512x4096_S32000x4096_01_01_2_2_n_n.contr.Idx) (κ := Fin 2 × Fin 512) (M := EReal)
    (piFinTwoEquiv fun a : Fin 2 => Fin (dot_S2x512x32000_S2x512x4096_S32000x4096_01_01_2_2_n_n.contr.size a)) _ _ fun q => ?_
  rw [h1 q (hb (q ⟨0, by decide⟩) (q ⟨1, by decide⟩)), h2 q (hb (q ⟨0, by decide⟩) (q ⟨1, by decide⟩)), v6_at, v10_at]
  rfl

/-! ## Where an update lands -/

theorem lands (x6 : IVec S1024x1 32) (t : Fin 1024) (d' : Fin 4096) (v : Fin 32000) (d : Fin 4096) :
    scatter_S32000x4096_S1024x1_S1024x4096_1_0_0_1.resultIdx? (ValueIdx.ix2 t d') x6 = some (ValueIdx.ix2 v d)
      ↔ (x6 (ValueIdx.ix2 t (0 : Fin 1))).toInt = (v.val : Int) ∧ d' = d := by
  rw [Routing.resultIdx?_ix2]
  have h0 : scatter_S32000x4096_S1024x1_S1024x4096_1_0_0_1.start (ValueIdx.ix2 t d') x6 0 = (x6 (ValueIdx.ix2 t (0 : Fin 1))).toInt := by
    unfold ScatterDims.start
    rw [dif_pos (by decide)]
    refine congrArg (fun i => (x6 i).toInt) (funext fun a => Fin.ext ?_)
    match a with
    | ⟨0, _⟩ => rfl
    | ⟨1, _⟩ => rfl
  have h1 : scatter_S32000x4096_S1024x1_S1024x4096_1_0_0_1.start (ValueIdx.ix2 t d') x6 1 = 0 := by
    unfold ScatterDims.start
    rw [dif_neg (by decide)]
  have w0 : scatter_S32000x4096_S1024x1_S1024x4096_1_0_0_1.window (ValueIdx.ix2 t d') 0 = 0 := by
    unfold ScatterDims.window
    rw [dif_neg (by decide)]
  have w1 : scatter_S32000x4096_S1024x1_S1024x4096_1_0_0_1.window (ValueIdx.ix2 t d') 1 = d'.val := by
    unfold ScatterDims.window
    rw [dif_pos (by decide)]
    rfl
  rw [h0, h1, w0, w1, Fin.ext_iff]
  omega

theorem v20_at (x6 : S2x512.Idx → BitVec 32) (h : ∀ t, 0 ≤ (tid x6 t).toInt) (t : Fin 1024) :
    Read.val_main_v20 (F := Ideal) x6 (ValueIdx.ix2 t (0 : Fin 1)) = tid x6 t := by
  rw [Read.val_main_v20_apply, Read.val_main_v19_apply, Read.val_main_v16_apply, Read.val_main_v15_apply, Read.val_main_c_apply, Read.val_main_v12_apply]
  have e : x6 (Read.idx_main_v12 (Read.idx_main_v20 (ValueIdx.ix2 t (0 : Fin 1)))) = tid x6 t := by
    unfold tid
    refine congrArg x6 (funext fun a => Fin.ext ?_)
    match a with
    | ⟨0, _⟩ => rfl
    | ⟨1, _⟩ => rfl
  rw [e]
  refine Routing.wrap_of_lt _ _ ?_
  have h' := h t
  rw [BitVec.toInt_eq_toNat_cond] at h'
  have := (tid x6 t).isLt
  split at h' <;> omega

theorem v14_at (x7 : S2x512x4096.Idx → EReal) (t : Fin 1024) (d : Fin 4096) :
    Read.val_main_v14 (F := Ideal) x7 (ValueIdx.ix2 t d) = x7 (ValueIdx.ix3 (sqn t) (pl t) d) := by
  rw [Read.val_main_v14_apply, Read.val_main_v13_apply]
  have ht := t.isLt
  have hd := d.isLt
  refine congrArg x7 (funext fun a => Fin.ext ?_)
  match a with
  | ⟨0, _⟩ => show (t.val * 4096 + d.val) / 2097152 = t.val / 512; omega
  | ⟨1, _⟩ => show (t.val * 4096 + d.val) / 4096 % 512 = t.val % 512; omega
  | ⟨2, _⟩ => show (t.val * 4096 + d.val) % 4096 = d.val; omega

/-- The first result. -/
theorem v21_at (x0 : S2x512x32000.Idx → EReal) (x1 : S2x4x32000.Idx → EReal) (x2 : S2x512x4096.Idx → EReal) (x3 : S2x512.Idx → EReal)
    (x6 : S2x512.Idx → BitVec 32) (x7 : S2x512x4096.Idx → EReal) (h : ∀ t, 0 ≤ (tid x6 t).toInt) (v : Fin 32000) (d : Fin 4096) :
    Read.val_main_v21 (F := Ideal) x1 x3 x6 x7 x0 x2 (ValueIdx.ix2 v d) = dE x0 x1 x2 x3 x6 x7 v d := by
  unfold Read.val_main_v21 dE
  have hs : ∀ (x : S32000x4096.Idx → EReal) (idx : IVec S1024x1 32) (upd : S1024x4096.Idx → EReal),
      (Host.scatterAdd (F := Ideal) (φ := .f32) scatter_S32000x4096_S1024x1_S1024x4096_1_0_0_1 x idx upd (ValueIdx.ix2 v d) : EReal)
        = x (ValueIdx.ix2 v d) + ∑ j ∈ Finset.univ.filter (fun j => scatter_S32000x4096_S1024x1_S1024x4096_1_0_0_1.resultIdx? j idx = some (ValueIdx.ix2 v d)), upd j :=
    fun _ _ _ => rfl
  rw [hs, v11_at]
  refine congrArg₂ (fun a b : EReal => a + b) rfl ?_
  rw [Finset.sum_filter, ← Equiv.sum_comp (ValueIdx.idxEquiv2 (n0 := 1024) (n1 := 4096)).symm, Fintype.sum_prod_type]
  refine Finset.sum_congr rfl fun t _ => ?_
  have e : ∀ d' : Fin 4096, (ValueIdx.idxEquiv2 (n0 := 1024) (n1 := 4096)).symm (t, d') = ValueIdx.ix2 t d' := fun _ => rfl
  simp only [e, lands, v20_at x6 h, v14_at]
  by_cases ht : (tid x6 t).toInt = (v.val : Int)
  · simp only [ht, true_and]
    rw [Finset.sum_ite_eq' Finset.univ d, if_pos (Finset.mem_univ _), if_pos trivial]
  · simp only [ht, false_and, if_false, Finset.sum_const_zero]

end Cert.ReferenceIdeal.Hand

end
-- ==== Proof.lean ====
/-
  The proof of the claims.
-/
module

public import Idealize.ShloMosaic.Lib.Bf16Pair
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.KernelDat
public import proofs.«01_k».proof.Proof.KernelIdealValue
public import proofs.«01_k».proof.Proof.ReferenceValue

@[expose] public section

set_option maxRecDepth 16384

noncomputable section

namespace Cert.Proof

open Idealize.ShloMosaic Idealize.ShloMosaic.TcCoe Idealize.SL.Sem

instance facts_ids_nonneg : Cert.Pre_ids_nonneg.Facts := ⟨by decide⟩

/-- The precondition, at a token. -/
theorem ids_nonneg (m : (ℓ : Loc Cert.KernelIdeal.nD Cert.KernelIdeal.τ Cert.KernelIdeal.sig) → Buf (Elt Ideal) ℓ)
    (h : Cert.Pre_KernelIdeal_ids_nonneg m) (c : Dev Cert.KernelIdeal.nD) (t : Fin 1024) :
    0 ≤ (HeadGrad.tid (m ((c.tc : Thread Cert.KernelIdeal.nD Cert.KernelIdeal.τ).loc Cert.KernelIdeal.main_arg6)) t).toInt := by
  have h := congrFun (h c) (ValueIdx.ix2 (HeadGrad.sqn t) (HeadGrad.pl t))
  exact IntOp.cmpi_sge.1 h

/-- Kernel and reference give the same two arrays. -/
theorem algebraic [hKI : Cert.KernelIdeal.Facts] [hRI : Cert.ReferenceIdeal.Facts] : Cert.algebraic_KernelIdeal_ReferenceIdeal_pre_ids_nonneg := by
  intro m g m' g' hpre hagree
  refine ⟨fun c => fun i : Cert.KernelIdeal.S32000x4096.Idx => HeadGrad.dE (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (i 0) (i 1),
    fun c => fun i : Cert.KernelIdeal.S1024x4096.Idx => HeadGrad.dH (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (i 0) (i 1), ?_, ?_⟩
  · exact (θ_run _ _ _).mono (fun r h c => ⟨((h.1 c).1 6).trans (Cert.KernelIdeal.Hand.arr6 m c), ((h.1 c).1 7).trans (Cert.KernelIdeal.Hand.arr7 m c),
      Cert.KernelIdeal.Hand.args_of m r h.1 c⟩) (Cert.KernelIdeal.Hand.run_main m g)
  · refine (θ_run _ _ _).mono (fun r h c => ⟨(h c).1.trans ?_, (h c).2.1.trans ?_, (h c).2.2⟩) (Cert.ReferenceIdeal.Value.run m' g')
    · obtain ⟨e0, e1, e2, e3, e4, e5, e6, e7⟩ := hagree c
      rw [Cert.ReferenceIdeal.Hand.reg0, Cert.ReferenceIdeal.Hand.reg1, e0, e1, e2, e3, e6, e7]
      funext i
      exact (congrArg _ (ValueIdx.eq_ix2 (n0 := 32000) (n1 := 4096) i)).trans
        (Cert.ReferenceIdeal.Hand.v21_at _ _ _ _ _ _ (ids_nonneg m hpre c) (i 0) (i 1))
    · obtain ⟨e0, e1, e2, e3, e4, e5, e6, e7⟩ := hagree c
      rw [Cert.ReferenceIdeal.Hand.reg0, Cert.ReferenceIdeal.Hand.reg2, e0, e1, e4, e5]
      funext i
      exact (congrArg _ (ValueIdx.eq_ix2 (n0 := 1024) (n1 := 4096) i)).trans
        (Cert.ReferenceIdeal.Hand.v28_at _ _ _ _ (i 0) (i 1))

theorem claim : Cert.Claim := ⟨Cert.Kernel.Gen.facts, Cert.KernelIdeal.Gen.facts, Cert.ReferenceIdeal.Gen.facts, facts_ids_nonneg,
  fun m ρ _ => Cert.Kernel.Hand.frame m ρ,
  fun m ρ _ => Cert.KernelIdeal.Hand.frame m ρ,
  fun m ρ _ => Cert.KernelIdeal.Hand.frame m ρ,
  fun m ρ _ => Cert.ReferenceIdeal.Gen.frame m ρ,
  fun m ρ _ => Cert.ReferenceIdeal.Gen.frame m ρ,
  IdealRules.bf16_pair.statement Cert.KernelIdeal.S2x4096 Cert.KernelIdeal.S1x4096,
  algebraic⟩

end Cert.Proof

end
